-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S64x2048 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S64x2048 : Shape := ⟨2, ![64, 2048]⟩
abbrev S4x4096 : Shape := ⟨2, ![4, 4096]⟩
abbrev S4x64x4096 : Shape := ⟨3, ![4, 64, 4096]⟩
abbrev S4x256x2048 : Shape := ⟨3, ![4, 256, 2048]⟩
abbrev S4x256 : Shape := ⟨2, ![4, 256]⟩
abbrev S4x64x256 : Shape := ⟨3, ![4, 64, 256]⟩
abbrev S1024x2048 : Shape := ⟨2, ![1024, 2048]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S64x256 : Shape := ⟨2, ![64, 256]⟩
abbrev S1x64x256 : Shape := ⟨3, ![1, 64, 256]⟩
abbrev S1x256 : Shape := ⟨2, ![1, 256]⟩
abbrev S4x4096x64 : Shape := ⟨3, ![4, 4096, 64]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x4096, .i32⟩
  | .hbm, ⟨3, _⟩ => ⟨S4x64x4096, .f32⟩
  | .hbm, ⟨4, _⟩ => ⟨S4x4096x64, .f32⟩
  | .local _ .vmem, ⟨0, _⟩ => ⟨S4x256x2048, .f32⟩
  | .local _ .vmem, ⟨1, _⟩ => ⟨S4x256x2048, .f32⟩
  | .local _ .vmem, ⟨2, _⟩ => ⟨S64x2048, .f32⟩
  | .local _ .vmem, ⟨3, _⟩ => ⟨S4x256, .i32⟩
  | .local _ .vmem, ⟨4, _⟩ => ⟨S4x256, .i32⟩
  | .local _ .vmem, ⟨5, _⟩ => ⟨S4x64x256, .f32⟩
  | .local _ .vmem, ⟨6, _⟩ => ⟨S4x64x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S4x4096x2048 : Shape := ⟨3, ![4, 4096, 2048]⟩
abbrev S64x2048 : Shape := ⟨2, ![64, 2048]⟩
abbrev S4096 : Shape := ⟨1, ![4096]⟩
abbrev S1x4096 : Shape := ⟨2, ![1, 4096]⟩
abbrev S4x4096 : Shape := ⟨2, ![4, 4096]⟩
abbrev S4x4096x64 : Shape := ⟨3, ![4, 4096, 64]⟩
abbrev S_ : Shape := ⟨0, ![]⟩
abbrev S64 : Shape := ⟨1, ![64]⟩
abbrev S4x4096x1 : Shape := ⟨3, ![4, 4096, 1]⟩
abbrev S1x1x64 : Shape := ⟨3, ![1, 1, 64]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4096, .f32⟩
  | .hbm, ⟨3, _⟩ => ⟨S1x4096, .f32⟩
  | .hbm, ⟨4, _⟩ => ⟨S4x4096, .f32⟩
  | .hbm, ⟨5, _⟩ => ⟨S64x2048, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S64, .f32⟩
  | .hbm, ⟨14, _⟩ => ⟨S4x4096x1, .f32⟩
  | .hbm, ⟨15, _⟩ => ⟨S1x1x64, .f32⟩
  | .hbm, ⟨16, _⟩ => ⟨S4x4096x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S4x4096x64, .f32⟩
  | .hbm, ⟨21, _⟩ => ⟨S4x4096x64, .f32⟩
  | .hbm, ⟨22, _⟩ => ⟨S4x4096x64, .f32⟩
  | .hbm, ⟨23, _⟩ => ⟨S4x4096x64, .f32⟩
  | .hbm, ⟨24, _⟩ => ⟨S_, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S4x4096x64, .f32⟩
  | .hbm, ⟨29, _⟩ => ⟨S_, .f32⟩
  | .hbm, ⟨30, _⟩ => ⟨S4x4096x64, .f32⟩
  | .hbm, ⟨31, _⟩ => ⟨S4x4096x64, .f32⟩
  | .hbm, ⟨32, _⟩ => ⟨S4x4096x64, .f32⟩
  | .hbm, ⟨33, _⟩ => ⟨S_, .f32⟩
  | .hbm, ⟨34, _⟩ => ⟨S4x4096x64, .f32⟩
  | .hbm, ⟨35, _⟩ => ⟨S4x4096x64, .f32⟩
  | .hbm, ⟨36, _⟩ => ⟨S4x4096x64, .f32⟩
  | .hbm, ⟨37, _⟩ => ⟨S4x4096x64, .f32⟩
  | .hbm, ⟨38, _⟩ => ⟨S_, .f32⟩
  | .hbm, ⟨39, _⟩ => ⟨S4x4096x64, .f32⟩
  | .hbm, ⟨40, _⟩ => ⟨S4x4096x64, .f32⟩
  | .hbm, ⟨41, _⟩ => ⟨S_, .f32⟩
  | .hbm, ⟨42, _⟩ => ⟨S4x4096x64, .f32⟩
  | .hbm, ⟨43, _⟩ => ⟨S4x4096x64, .i1⟩
  | .hbm, ⟨44, _⟩ => ⟨S_, .f32⟩
  | .hbm, ⟨45, _⟩ => ⟨S4x4096x64, .f32⟩
  | .hbm, ⟨46, _⟩ => ⟨S4x4096x64, .i1⟩
  | .hbm, ⟨47, _⟩ => ⟨S_, .f32⟩
  | .hbm, ⟨48, _⟩ => ⟨S4x4096x64, .f32⟩
  | .hbm, ⟨49, _⟩ => ⟨S4x4096x64, .f32⟩
  | .hbm, ⟨50, _⟩ => ⟨S4x4096x64, .f32⟩
  | .hbm, ⟨51, _⟩ => ⟨S4x4096x64, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x4096x1, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x64, .f32⟩
  | .hbm, ⟨65, _⟩ => ⟨S4x4096x64, .f32⟩
  | .hbm, ⟨66, _⟩ => ⟨S4x4096x64, .i32⟩
  | .hbm, ⟨67, _⟩ => ⟨S_, .f32⟩
  | .hbm, ⟨68, _⟩ => ⟨S_, .i32⟩
  | .hbm, ⟨69, _⟩ => ⟨S4x4096, .f32⟩
  | .hbm, ⟨70, _⟩ => ⟨S4x4096, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call2_v0 : Ref sig .tc := ⟨.hbm, 66, rfl⟩
abbrev main_call2_cst : Ref sig .tc := ⟨.hbm, 67, rfl⟩
abbrev main_call2_c : Ref sig .tc := ⟨.hbm, 68, rfl⟩
abbrev main_call2_v1_0 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.RefRun.lean ====
/- The reference's run: @main as three lists of host operations, each with what it leaves in the buffers the next
   one reads, named by a few functions of the arguments, and the run of the whole line. -/
module

public import proofs.«01_k».proof.Proof.Gen.ReferenceIdeal
public import Idealize.ShloMosaic.Lib.StableHlo.Run
public import Idealize.ShloMosaic.Lib.Pipeline.Frame
public import Idealize.ShloMosaic.Lib.Claim

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the distance between a token's place and an expert's. -/
abbrev opsA : List (HloOp τ sig (Elt F)) :=
  [ nullary main_v0 (sitofp .f32 (iotaInDim S4096 32 0)),
    unary main_v0 main_v1 (broadcastInDim S1x4096 ![1] bcast_S4096_S1x4096_1 : (⟨S4096, .f32⟩ : BufTy).Contents (Elt F) → (⟨S1x4096, .f32⟩ : BufTy).Contents (Elt F)),
    unary main_v1 main_v2 (broadcastInDim S4x4096 ![0, 1] bcast_S1x4096_S4x4096_0_1 : (⟨S1x4096, .f32⟩ : BufTy).Contents (Elt F) → (⟨S4x4096, .f32⟩ : BufTy).Contents (Elt F)),
    unary main_arg1 main_v3 (Host.sign : (⟨S64x2048, .f32⟩ : BufTy).Contents (Elt F) → (⟨S64x2048, .f32⟩ : BufTy).Contents (Elt F)),
    binary main_arg0 main_v3 main_v4 ((fun l r => Host.dotGeneral dot_S4x4096x2048_S64x2048_S4x4096x64_2_1_01_0_n_n none l r) : (⟨S4x4096x2048, .f32⟩ : BufTy).Contents (Elt F) → (⟨S64x2048, .f32⟩ : BufTy).Contents (Elt F) → (⟨S4x4096x64, .f32⟩ : BufTy).Contents (Elt F)),
    nullary main_cst (constant S_ .f32 0x45800000#32),
    unary main_cst main_v5 (broadcastInDim S4x4096 ![] bcast_S_S4x4096 : (⟨S_, .f32⟩ : BufTy).Contents (Elt F) → (⟨S4x4096, .f32⟩ : BufTy).Contents (Elt F)),
    binary main_v2 main_v5 main_v6 (Host.divf : (⟨S4x4096, .f32⟩ : BufTy).Contents (Elt F) → (⟨S4x4096, .f32⟩ : BufTy).Contents (Elt F) → (⟨S4x4096, .f32⟩ : BufTy).Contents (Elt F)),
    nullary main_cst_0 (constant S_ .f32 0x42800000#32),
    unary main_cst_0 main_v7 (broadcastInDim S4x4096 ![] bcast_S_S4x4096 : (⟨S_, .f32⟩ : BufTy).Contents (Elt F) → (⟨S4x4096, .f32⟩ : BufTy).Contents (Elt F)),
    binary main_v6 main_v7 main_v8 (mulf : (⟨S4x4096, .f32⟩ : BufTy).Contents (Elt F) → (⟨S4x4096, .f32⟩ : BufTy).Contents (Elt F) → (⟨S4x4096, .f32⟩ : BufTy).Contents (Elt F)),
    nullary main_v9 (sitofp .f32 (iotaInDim S64 32 0)),
    unary main_v8 main_v10 (broadcastInDim S4x4096x1 ![0, 1] bcast_S4x4096_S4x4096x1_0_1 : (⟨S4x4096, .f32⟩ : BufTy).Contents (Elt F) → (⟨S4x4096x1, .f32⟩ : BufTy).Contents (Elt F)),
    unary main_v9 main_v11 (broadcastInDim S1x1x64 ![2] bcast_S64_S1x1x64_2 : (⟨S64, .f32⟩ : BufTy).Contents (Elt F) → (⟨S1x1x64, .f32⟩ : BufTy).Contents (Elt F)),
    unary main_v10 main_v12 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    unary main_v11 main_v13 (broadcastInDim S4x4096x64 ![0, 1, 2] bcast_S1x1x64_S4x4096x64_0_1_2 : (⟨S1x1x64, .f32⟩ : BufTy).Contents (Elt F) → (⟨S4x4096x64, .f32⟩ : BufTy).Contents (Elt F)),
    binary main_v12 main_v13 main_v14 (subf : (⟨S4x4096x64, .f32⟩ : BufTy).Contents (Elt F) → (⟨S4x4096x64, .f32⟩ : BufTy).Contents (Elt F) → (⟨S4x4096x64, .f32⟩ : BufTy).Contents (Elt F)),
    nullary main_cst_1 (constant S_ .f32 0x40000000#32),
    unary main_cst_1 main_v15 (broadcastInDim S4x4096x64 ![] bcast_S_S4x4096x64 : (⟨S_, .f32⟩ : BufTy).Contents (Elt F) → (⟨S4x4096x64, .f32⟩ : BufTy).Contents (Elt F)),
    binary main_v14 main_v15 main_v16 (Host.divf : (⟨S4x4096x64, .f32⟩ : BufTy).Contents (Elt F) → (⟨S4x4096x64, .f32⟩ : BufTy).Contents (Elt F) → (⟨S4x4096x64, .f32⟩ : BufTy).Contents (Elt F)),
    unary main_v16 main_v17 (Host.absf : (⟨S4x4096x64, .f32⟩ : BufTy).Contents (Elt F) → (⟨S4x4096x64, .f32⟩ : BufTy).Contents (Elt F)) ]

/-- The operations of the cubic B-spline of that distance. -/
abbrev opsB : List (HloOp τ sig (Elt F)) :=
  [ binary main_v17 main_v17 main_v18 (mulf : (⟨S4x4096x64, .f32⟩ : BufTy).Contents (Elt F) → (⟨S4x4096x64, .f32⟩ : BufTy).Contents (Elt F) → (⟨S4x4096x64, .f32⟩ : BufTy).Contents (Elt F)),
    nullary main_cst_2 (constant S_ .f32 0x3F2AAAAB#32),
    unary main_cst_2 main_v19 (broadcastInDim S4x4096x64 ![] bcast_S_S4x4096x64 : (⟨S_, .f32⟩ : BufTy).Contents (Elt F) → (⟨S4x4096x64, .f32⟩ : BufTy).Contents (Elt F)),
    binary main_v19 main_v18 main_v20 (subf : (⟨S4x4096x64, .f32⟩ : BufTy).Contents (Elt F) → (⟨S4x4096x64, .f32⟩ : BufTy).Contents (Elt F) → (⟨S4x4096x64, .f32⟩ : BufTy).Contents (Elt F)),
    binary main_v17 main_v17 main_v21 (mulf : (⟨S4x4096x64, .f32⟩ : BufTy).Contents (Elt F) → (⟨S4x4096x64, .f32⟩ : BufTy).Contents (Elt F) → (⟨S4x4096x64, .f32⟩ : BufTy).Contents (Elt F)),
    binary main_v21 main_v17 main_v22 (mulf : (⟨S4x4096x64, .f32⟩ : BufTy).Contents (Elt F) → (⟨S4x4096x64, .f32⟩ : BufTy).Contents (Elt F) → (⟨S4x4096x64, .f32⟩ : BufTy).Contents (Elt F)),
    nullary main_cst_3 (constant S_ .f32 0x3F000000#32),
    unary main_cst_3 main_v23 (broadcastInDim S4x4096x64 ![] bcast_S_S4x4096x64 : (⟨S_, .f32⟩ : BufTy).Contents (Elt F) → (⟨S4x4096x64, .f32⟩ : BufTy).Contents (Elt F)),
    binary main_v23 main_v22 main_v24 (mulf : (⟨S4x4096x64, .f32⟩ : BufTy).Contents (Elt F) → (⟨S4x4096x64, .f32⟩ : BufTy).Contents (Elt F) → (⟨S4x4096x64, .f32⟩ : BufTy).Contents (Elt F)),
    binary main_v20 main_v24 main_v25 (addf : (⟨S4x4096x64, .f32⟩ : BufTy).Contents (Elt F) → (⟨S4x4096x64, .f32⟩ : BufTy).Contents (Elt F) → (⟨S4x4096x64, .f32⟩ : BufTy).Contents (Elt F)),
    nullary main_cst_4 (constant S_ .f32 0x40000000#32),
    unary main_cst_4 main_v26 (broadcastInDim S4x4096x64 ![] bcast_S_S4x4096x64 : (⟨S_, .f32⟩ : BufTy).Contents (Elt F) → (⟨S4x4096x64, .f32⟩ : BufTy).Contents (Elt F)),
    binary main_v26 main_v17 main_v27 (subf : (⟨S4x4096x64, .f32⟩ : BufTy).Contents (Elt F) → (⟨S4x4096x64, .f32⟩ : BufTy).Contents (Elt F) → (⟨S4x4096x64, .f32⟩ : BufTy).Contents (Elt F)),
    binary main_v27 main_v27 main_v28 (mulf : (⟨S4x4096x64, .f32⟩ : BufTy).Contents (Elt F) → (⟨S4x4096x64, .f32⟩ : BufTy).Contents (Elt F) → (⟨S4x4096x64, .f32⟩ : BufTy).Contents (Elt F)),
    binary main_v28 main_v27 main_v29 (mulf : (⟨S4x4096x64, .f32⟩ : BufTy).Contents (Elt F) → (⟨S4x4096x64, .f32⟩ : BufTy).Contents (Elt F) → (⟨S4x4096x64, .f32⟩ : BufTy).Contents (Elt F)),
    nullary main_cst_5 (constant S_ .f32 0x3E2AAAAB#32),
    unary main_cst_5 main_v30 (broadcastInDim S4x4096x64 ![] bcast_S_S4x4096x64 : (⟨S_, .f32⟩ : BufTy).Contents (Elt F) → (⟨S4x4096x64, .f32⟩ : BufTy).Contents (Elt F)),
    binary main_v30 main_v29 main_v31 (mulf : (⟨S4x4096x64, .f32⟩ : BufTy).Contents (Elt F) → (⟨S4x4096x64, .f32⟩ : BufTy).Contents (Elt F) → (⟨S4x4096x64, .f32⟩ : BufTy).Contents (Elt F)),
    nullary main_cst_6 (constant S_ .f32 0x3F800000#32),
    unary main_cst_6 main_v32 (broadcastInDim S4x4096x64 ![] bcast_S_S4x4096x64 : (⟨S_, .f32⟩ : BufTy).Contents (Elt F) → (⟨S4x4096x64, .f32⟩ : BufTy).Contents (Elt F)),
    binary main_v17 main_v32 main_v33 (cmpf .olt : (⟨S4x4096x64, .f32⟩ : BufTy).Contents (Elt F) → (⟨S4x4096x64, .f32⟩ : BufTy).Contents (Elt F) → (⟨S4x4096x64, .i1⟩ : BufTy).Contents (Elt F)),
    nullary main_cst_7 (constant S_ .f32 0x40000000#32),
    unary main_cst_7 main_v34 (broadcastInDim S4x4096x64 ![] bcast_S_S4x4096x64 : (⟨S_, .f32⟩ : BufTy).Contents (Elt F) → (⟨S4x4096x64, .f32⟩ : BufTy).Contents (Elt F)),
    binary main_v17 main_v34 main_v35 (cmpf .olt : (⟨S4x4096x64, .f32⟩ : BufTy).Contents (Elt F) → (⟨S4x4096x64, .f32⟩ : BufTy).Contents (Elt F) → (⟨S4x4096x64, .i1⟩ : BufTy).Contents (Elt F)),
    nullary main_cst_8 (constant S_ .f32 0x00000000#32),
    unary main_cst_8 main_v36 (broadcastInDim S4x4096x64 ![] bcast_S_S4x4096x64 : (⟨S_, .f32⟩ : BufTy).Contents (Elt F) → (⟨S4x4096x64, .f32⟩ : BufTy).Contents (Elt F)),
    TRef.ternary (TRef.of (T := ⟨S4x4096x64, .i1⟩) main_v35) (TRef.of (T := ⟨S4x4096x64, .f32⟩) main_v31) (TRef.of (T := ⟨S4x4096x64, .f32⟩) main_v36) (TRef.of (T := ⟨S4x4096x64, .f32⟩) main_v37) select,
    TRef.ternary (TRef.of (T := ⟨S4x4096x64, .i1⟩) main_v33) (TRef.of (T := ⟨S4x4096x64, .f32⟩) main_v25) (TRef.of (T := ⟨S4x4096x64, .f32⟩) main_v37) (TRef.of (T := ⟨S4x4096x64, .f32⟩) main_v38) select ]

/-- The operations from the product of score and spline to the softmax and the position of the greatest entry. -/
abbrev opsC : List (HloOp τ sig (Elt F)) :=
  [ binary main_v4 main_v38 main_v39 (mulf : (⟨S4x4096x64, .f32⟩ : BufTy).Contents (Elt F) → (⟨S4x4096x64, .f32⟩ : BufTy).Contents (Elt F) → (⟨S4x4096x64, .f32⟩ : BufTy).Contents (Elt F)),
    nullary main_cst_9 (constant S_ .f32 0xFF800000#32),
    binary main_v39 main_cst_9 main_v40 ((fun x v => Host.reduce FloatOps.maximumf x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    nullary main_cst_10 (constant S_ .f32 0xFF800000#32),
    unary main_cst_10 main_v41 (broadcastInDim S4x4096 ![] bcast_S_S4x4096 : (⟨S_, .f32⟩ : BufTy).Contents (Elt F) → (⟨S4x4096, .f32⟩ : BufTy).Contents (Elt F)),
    binary main_v41 main_v40 main_v42 (maximumf : (⟨S4x4096, .f32⟩ : BufTy).Contents (Elt F) → (⟨S4x4096, .f32⟩ : BufTy).Contents (Elt F) → (⟨S4x4096, .f32⟩ : BufTy).Contents (Elt F)),
    unary main_v42 main_v43 (broadcastInDim S4x4096x1 ![0, 1] bcast_S4x4096_S4x4096x1_0_1 : (⟨S4x4096, .f32⟩ : BufTy).Contents (Elt F) → (⟨S4x4096x1, .f32⟩ : BufTy).Contents (Elt F)),
    unary main_v43 main_v44 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    binary main_v39 main_v44 main_v45 (subf : (⟨S4x4096x64, .f32⟩ : BufTy).Contents (Elt F) → (⟨S4x4096x64, .f32⟩ : BufTy).Contents (Elt F) → (⟨S4x4096x64, .f32⟩ : BufTy).Contents (Elt F)),
    unary main_v45 main_v46 (Host.exp : (⟨S4x4096x64, .f32⟩ : BufTy).Contents (Elt F) → (⟨S4x4096x64, .f32⟩ : BufTy).Contents (Elt F)),
    nullary main_cst_11 (constant S_ .f32 0x00000000#32),
    binary main_v46 main_cst_11 main_v47 ((fun x v => Host.reduceAdd x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    unary main_v47 main_v48 (broadcastInDim S4x4096x1 ![0, 1] bcast_S4x4096_S4x4096x1_0_1 : (⟨S4x4096, .f32⟩ : BufTy).Contents (Elt F) → (⟨S4x4096x1, .f32⟩ : BufTy).Contents (Elt F)),
    unary main_v48 main_v49 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    binary main_v46 main_v49 main_v50 (Host.divf : (⟨S4x4096x64, .f32⟩ : BufTy).Contents (Elt F) → (⟨S4x4096x64, .f32⟩ : BufTy).Contents (Elt F) → (⟨S4x4096x64, .f32⟩ : BufTy).Contents (Elt F)),
    TRef.nullary (TRef.of (T := ⟨S4x4096x64, .i32⟩) main_call2_v0) (iotaInDim S4x4096x64 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S4x4096x64, .f32⟩) main_v39) (TRef.of (T := ⟨S4x4096x64, .i32⟩) main_call2_v0) (TRef.of (T := ⟨S_, .f32⟩) main_call2_cst) (TRef.of (T := ⟨S_, .i32⟩) main_call2_c) (TRef.of (T := ⟨S4x4096, .f32⟩) main_call2_v1_0) (fun x y u v j => (Host.argReduce reducer_argmax_f32_i32 x y u v reducesTo_S4x4096x64_S4x4096_d2 h_S_ j).1),
    TRef.quaternary (TRef.of (T := ⟨S4x4096x64, .f32⟩) main_v39) (TRef.of (T := ⟨S4x4096x64, .i32⟩) main_call2_v0) (TRef.of (T := ⟨S_, .f32⟩) main_call2_cst) (TRef.of (T := ⟨S_, .i32⟩) main_call2_c) (TRef.of (T := ⟨S4x4096, .i32⟩) main_v51) (fun x y u v j => (Host.argReduce reducer_argmax_f32_i32 x y u v reducesTo_S4x4096x64_S4x4096_d2 h_S_ j).2) ]

/-- The score of every token against every expert: the token's row against the signs of the expert's row. -/
def scores (x : FVec F S4x4096x2048 .f32) (s : FVec F S64x2048 .f32) : FVec F S4x4096x64 .f32 :=
  Host.dotGeneral dot_S4x4096x2048_S64x2048_S4x4096x64_2_1_01_0_n_n none x (Host.sign s)

/-- One literal at every entry of a token-by-expert array. -/
def fill (w : BitVec 32) : FVec F S4x4096x64 .f32 := broadcastInDim S4x4096x64 ![] bcast_S_S4x4096x64 (constant S_ .f32 w)

/-- The distance from a token's place on the scale of the experts to the expert, halved. -/
def dist : FVec F S4x4096x64 .f32 :=
  Host.absf (Host.divf (subf
    (broadcastInDim S4x4096x64 ![0, 1, 2] bcast_S4x4096x1_S4x4096x64_0_1_2 (broadcastInDim S4x4096x1 ![0, 1] bcast_S4x4096_S4x4096x1_0_1
      (mulf (Host.divf
          (broadcastInDim S4x4096 ![0, 1] bcast_S1x4096_S4x4096_0_1 (broadcastInDim S1x4096 ![1] bcast_S4096_S1x4096_1 (sitofp .f32 (iotaInDim S4096 32 0))))
          (broadcastInDim S4x4096 ![] bcast_S_S4x4096 (constant S_ .f32 0x45800000#32)))
        (broadcastInDim S4x4096 ![] bcast_S_S4x4096 (constant S_ .f32 0x42800000#32)))))
    (broadcastInDim S4x4096x64 ![0, 1, 2] bcast_S1x1x64_S4x4096x64_0_1_2 (broadcastInDim S1x1x64 ![2] bcast_S64_S1x1x64_2 (sitofp .f32 (iotaInDim S64 32 0)))))
    (fill 0x40000000#32))

/-- The cubic B-spline of an array of distances, entry by entry. -/
def spline (a : FVec F S4x4096x64 .f32) : FVec F S4x4096x64 .f32 :=
  select (cmpf .olt a (fill 0x3F800000#32))
    (addf (subf (fill 0x3F2AAAAB#32) (mulf a a)) (mulf (fill 0x3F000000#32) (mulf (mulf a a) a)))
    (select (cmpf .olt a (fill 0x40000000#32))
      (mulf (fill 0x3E2AAAAB#32) (mulf (mulf (subf (fill 0x40000000#32) a) (subf (fill 0x40000000#32) a)) (subf (fill 0x40000000#32) a)))
      (fill 0x00000000#32))

/-- A token-by-expert array's rows, each raised less its greatest entry. -/
def raised (z : FVec F S4x4096x64 .f32) : FVec F S4x4096x64 .f32 :=
  Host.exp (subf z (broadcastInDim S4x4096x64 ![0, 1, 2] bcast_S4x4096x1_S4x4096x64_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf z (constant S_ .f32 0xFF800000#32) reducesTo_S4x4096x64_S4x4096_d2 h_S_)))))

/-- The softmax of every row. -/
def soft (z : FVec F S4x4096x64 .f32) : FVec F S4x4096x64 .f32 :=
  Host.divf (raised z) (broadcastInDim S4x4096x64 ![0, 1, 2] bcast_S4x4096x1_S4x4096x64_0_1_2 (broadcastInDim S4x4096x1 ![0, 1] bcast_S4x4096_S4x4096x1_0_1
    (Host.reduceAdd (raised z) (constant S_ .f32 0x00000000#32) reducesTo_S4x4096x64_S4x4096_d2 h_S_)))

/-- The position of the greatest entry of every row. -/
def best (z : FVec F S4x4096x64 .f32) : IVec S4x4096 32 := fun j =>
  (Host.argReduce reducer_argmax_f32_i32 z (iotaInDim S4x4096x64 32 2) (constant S_ .f32 0xFF800000#32) (constantI S_ 32 0#32) reducesTo_S4x4096x64_S4x4096_d2 h_S_ j).2

/-- The scores weighted by the spline. -/
def weighted (x : FVec F S4x4096x2048 .f32) (s : FVec F S64x2048 .f32) : FVec F S4x4096x64 .f32 := mulf (scores x s) (spline dist)

/-- The softmax of the weighted scores. -/
def res0 (x : FVec F S4x4096x2048 .f32) (s : FVec F S64x2048 .f32) : FVec F S4x4096x64 .f32 := soft (weighted x s)

/-- The position of the greatest weighted score. -/
def res1 (x : FVec F S4x4096x2048 .f32) (s : FVec F S64x2048 .f32) : IVec S4x4096 32 := best (weighted x s)

set_option maxRecDepth 8192
set_option maxHeartbeats 4000000

/-- @main is the three lists one after the other. -/
theorem main_eq (c : Dev nD) : main (F := F) c = seq (opsA ++ (opsB ++ opsC)) := rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- The operations stay within the program's buffers. -/
theorem ops_sub : (opsA ++ (opsB ++ opsC) : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., ternary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub ..⟩

/-- What the first list leaves: the scores, the distances, the arguments as they were. -/
theorem afterA (V : Valuation τ sig (Elt F)) :
    after opsA V (Proc.devRef .tc main_v4) = scores (V (Proc.devRef .tc main_arg0)) (V (Proc.devRef .tc main_arg1))
    ∧ after opsA V (Proc.devRef .tc main_v17) = dist
    ∧ after opsA V (Proc.devRef .tc main_arg0) = V (Proc.devRef .tc main_arg0)
    ∧ after opsA V (Proc.devRef .tc main_arg1) = V (Proc.devRef .tc main_arg1) := by
  refine ⟨?_, ?_, ?_, ?_⟩ <;> simp only [opsA] <;> after_results_simp <;> first | rfl | (unfold dist fill; rfl)

/-- What the second list leaves: the spline of the distances, the scores and the arguments as they were. -/
theorem afterB (V : Valuation τ sig (Elt F)) :
    after opsB V (Proc.devRef .tc main_v38) = spline (V (Proc.devRef .tc main_v17))
    ∧ after opsB V (Proc.devRef .tc main_v4) = V (Proc.devRef .tc main_v4)
    ∧ after opsB V (Proc.devRef .tc main_arg0) = V (Proc.devRef .tc main_arg0)
    ∧ after opsB V (Proc.devRef .tc main_arg1) = V (Proc.devRef .tc main_arg1) := by
  refine ⟨?_, ?_, ?_, ?_⟩ <;> simp only [opsB, TRef.ternary, TRef.toBuf, TRef.ofBuf, cast_eq] <;> after_results_simp <;> first | rfl | (unfold spline fill; rfl)

/-- What the third list leaves: the softmax and the position of the greatest entry of score times spline, the
    arguments as they were. -/
theorem afterC (V : Valuation τ sig (Elt F)) :
    after opsC V (Proc.devRef .tc main_v51) = best (mulf (V (Proc.devRef .tc main_v4) : FVec F S4x4096x64 .f32) (V (Proc.devRef .tc main_v38)))
    ∧ after opsC V (Proc.devRef .tc main_v50) = soft (mulf (V (Proc.devRef .tc main_v4) : FVec F S4x4096x64 .f32) (V (Proc.devRef .tc main_v38)))
    ∧ after opsC V (Proc.devRef .tc main_arg0) = V (Proc.devRef .tc main_arg0)
    ∧ after opsC V (Proc.devRef .tc main_arg1) = V (Proc.devRef .tc main_arg1) := by
  refine ⟨?_, ?_, ?_, ?_⟩ <;> simp only [opsC, TRef.nullary, TRef.quaternary, TRef.toBuf, TRef.ofBuf, cast_eq] <;> after_results_simp <;> first | rfl | (unfold best; rfl) | (unfold soft raised; rfl)

variable (m : (ℓ : Loc nD τ sig) → Buf (Elt F) ℓ) (ρ : Dev nD → PrngReg)

/-- The reference terminates from any memory with zero counters: the position of the greatest weighted score and the
    softmax are in its two results, the arguments are as they were. -/
theorem run : θ_run defs (onTc (τ := τ) (main (F := F))) ⟨m, fun _ => 0, ρ⟩ fun r => ∀ c : Dev nD,
      r.2.mem ((c.tc : Thread nD τ).loc main_v51) = res1 (m ((c.tc : Thread nD τ).loc main_arg0)) (m ((c.tc : Thread nD τ).loc main_arg1))
      ∧ r.2.mem ((c.tc : Thread nD τ).loc main_v50) = res0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_)
    (run_seq scopedRefs_eq scopedSems_eq defs main (fun _ => opsA ++ (opsB ++ opsC)) main_eq (fun _ => ops_sub) m ρ)
  obtain ⟨a1, a2, a3, a4⟩ := afterA (launchContents m c)
  obtain ⟨b1, b2, b3, b4⟩ := afterB (after opsA (launchContents m c))
  obtain ⟨c1, c2, c3, c4⟩ := afterC (after opsB (after opsA (launchContents m c)))
  have hs : ∀ b : Ref sig .tc, r.2.mem ((c.tc : Thread nD τ).loc b)
      = after opsC (after opsB (after opsA (launchContents m c))) (Proc.devRef .tc b) := fun b =>
    (h c b).trans (by rw [after_append, after_append])
  refine ⟨(hs _).trans ?_, (hs _).trans ?_, (hs _).trans (c3.trans (b3.trans a3)), (hs _).trans (c4.trans (b4.trans a4))⟩
  · rw [c1, b1, b2, a1, a2]; rfl
  · rw [c2, b1, b2, a1, a2]; rfl

/-- The same run as a frame: the arguments as they were, every counter at zero (the program declares none). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (run m ρ)

end Cert.RefRun

end
-- ==== Proof.Spec.lean ====
/- What both programs compute, one token at a time, over the extended reals: the weighted scores of a token, their
   softmax, and the position of the greatest. Only mathematics here: no program is read. -/
module

public import Idealize.ShloMosaic.PureOps.Ideal
public import Idealize.ShloMosaic.PureOps.Ideal.Laws
public import Idealize.ShloMosaic.Lib.ValueIdx

@[expose] public section

noncomputable section

namespace Cert.Spec

open Idealize.ShloMosaic Idealize.ShloMosaic.ValueIdx

/-! ## A row of 64 extended reals -/

/-- The greatest entry of a row. -/
def top (z : Fin 64 → EReal) : EReal := Finset.univ.sup z

/-- The softmax of a row at an entry. -/
def softRow (z : Fin 64 → EReal) (e : Fin 64) : EReal :=
  Ideal.div (Ideal.exp (z e - top z)) (∑ k : Fin 64, Ideal.exp (z k - top z))

/-- Every entry is at most the greatest. -/
theorem le_top (z : Fin 64 → EReal) (e : Fin 64) : z e ≤ top z := Finset.le_sup (Finset.mem_univ e)

/-- The entries equal to the greatest are some. -/
theorem attains_nonempty (z : Fin 64 → EReal) : (Finset.univ.filter fun e => z e = top z).Nonempty := by
  obtain ⟨e, -, h⟩ := Finset.exists_mem_eq_sup Finset.univ ⟨(0 : Fin 64), Finset.mem_univ _⟩ z
  exact ⟨e, Finset.mem_filter.mpr ⟨Finset.mem_univ e, h.symm⟩⟩

/-- The least position whose entry is the greatest. -/
def best (z : Fin 64 → EReal) : Fin 64 := (Finset.univ.filter fun e => z e = top z).min' (attains_nonempty z)

/-- The entry there is the greatest. -/
theorem best_attains (z : Fin 64 → EReal) : z (best z) = top z :=
  (Finset.mem_filter.mp (Finset.min'_mem _ (attains_nonempty z))).2

/-- No earlier entry is. -/
theorem best_le (z : Fin 64 → EReal) (e : Fin 64) (h : z e = top z) : best z ≤ e :=
  Finset.min'_le _ e (Finset.mem_filter.mpr ⟨Finset.mem_univ e, h⟩)

/-- The least of "its position where the entry is the greatest, 64 elsewhere" is that position. -/
theorem inf_positions (z : Fin 64 → EReal) :
    (Finset.univ : Finset (Fin 64)).fold min ⊤ (fun e => if z e = top z then ((e.val : ℝ) : EReal) else ((64 : ℝ) : EReal))
      = ((((best z).val : ℕ) : ℝ) : EReal) := by
  show Finset.univ.inf _ = _
  apply le_antisymm
  · refine (Finset.inf_le (Finset.mem_univ (best z))).trans ?_
    rw [if_pos (best_attains z)]
  · refine Finset.le_inf fun e _ => ?_
    by_cases h : z e = top z
    · rw [if_pos h, EReal.coe_le_coe_iff]
      exact_mod_cast best_le z e h
    · rw [if_neg h, EReal.coe_le_coe_iff]
      exact_mod_cast (best z).isLt.le

/-- A small natural number converted to a 32-bit word is the word of that number. -/
theorem fptosi_nat (n : ℕ) (h : n < 64) : Ideal.fptosi 32 ((n : ℝ) : EReal) = BitVec.ofNat 32 n := by
  unfold Ideal.fptosi
  rw [show Ideal.toIntClamped (-(2 ^ (32 - 1) : Nat)) ((2 ^ (32 - 1) : Nat) - 1) ((n : ℝ) : EReal) = (n : ℤ) from ?_]
  · exact BitVec.ofInt_natCast 32 n
  · rw [Ideal.toIntClamped_coe, if_pos (Nat.cast_nonneg n), Int.floor_natCast]
    omega

/-- The word of a small natural number, read signed, is the number. -/
theorem toInt_ofNat (n : ℕ) (h : n < 4096) : (BitVec.ofNat 32 n).toInt = (n : ℤ) := by
  rw [BitVec.toInt_eq_toNat_of_lt] <;> rw [BitVec.toNat_ofNat, Nat.mod_eq_of_lt (by omega)]
  omega

/-! ## The literals -/

/-- The word of one sixty-fourth. -/
theorem lit_64th : Ideal.ofBits .f32 0x3C800000#32 = ((1 / 64 : ℝ) : EReal) := by
  simp [Ideal.ofBits, Ideal.ieee, -EReal.coe_mul]; norm_num
/-- The word of one half. -/
theorem lit_half : Ideal.ofBits .f32 0x3F000000#32 = ((1 / 2 : ℝ) : EReal) := by
  simp [Ideal.ofBits, Ideal.ieee, -EReal.coe_mul]; norm_num
/-- The word of two. -/
theorem lit_2 : Ideal.ofBits .f32 0x40000000#32 = ((2 : ℝ) : EReal) := by
  simp [Ideal.ofBits, Ideal.ieee, -EReal.coe_mul]; norm_num
/-- The word of sixty-four. -/
theorem lit_64 : Ideal.ofBits .f32 0x42800000#32 = ((64 : ℝ) : EReal) := by
  simp [Ideal.ofBits, Ideal.ieee, -EReal.coe_mul]; norm_num
/-- The word of four thousand and ninety-six. -/
theorem lit_4096 : Ideal.ofBits .f32 0x45800000#32 = ((4096 : ℝ) : EReal) := by
  simp [Ideal.ofBits, Ideal.ieee, -EReal.coe_mul]; norm_num
/-- The word of minus infinity is the least extended real. -/
theorem lit_bot : Ideal.ofBits .f32 0xFF800000#32 = ⊥ := by
  simp [Ideal.ofBits, Ideal.ieee]
/-- The word of plus infinity is the greatest extended real. -/
theorem lit_top : Ideal.ofBits .f32 0x7F800000#32 = ⊤ := by
  simp [Ideal.ofBits, Ideal.ieee]

/-! ## The position of a token and its weight -/

/-- Half the distance from token `t`'s place on the scale of the experts to expert `e`. -/
def dist (t e : ℕ) : EReal := ((|(t : ℝ) / 64 - (e : ℝ)| / 2 : ℝ) : EReal)

/-- The absolute value of a real number, as the greater of it and its negative among the extended reals. -/
theorem max_neg_coe (r : ℝ) : max (r : EReal) (-(r : EReal)) = ((|r| : ℝ) : EReal) := by
  rw [← EReal.coe_neg]; exact (EReal.coe_strictMono.monotone.map_max (a := r) (b := -r)).symm

/-- The distance with the place as `t · (1/64)` and the half as a product. -/
theorem dist_by_products (t e : ℕ) :
    FloatOps.absf (F := Ideal) (φ := .f32) ((((t : ℝ) : EReal) * Ideal.ofBits .f32 0x3C800000#32 - ((e : ℝ) : EReal)) * Ideal.ofBits .f32 0x3F000000#32)
      = dist t e := by
  rw [lit_64th, lit_half, ← EReal.coe_mul, ← EReal.coe_sub, ← EReal.coe_mul]
  refine (max_neg_coe _).trans ?_
  unfold dist
  rw [abs_mul, abs_of_pos (show (0 : ℝ) < 1 / 2 by norm_num)]
  congr 1
  ring_nf

/-- The distance with the place as `t / 4096 · 64` and the half as a quotient. -/
theorem dist_by_quotients (t e : ℕ) :
    FloatOps.absf (F := Ideal) (φ := .f32) (Ideal.div (Ideal.div ((t : ℝ) : EReal) (Ideal.ofBits .f32 0x45800000#32) * Ideal.ofBits .f32 0x42800000#32 - ((e : ℝ) : EReal)) (Ideal.ofBits .f32 0x40000000#32))
      = dist t e := by
  rw [lit_4096, lit_64, lit_2, Ideal.div_coe (by norm_num), Ideal.div_coe (by norm_num), ← EReal.coe_mul, ← EReal.coe_mul,
    ← EReal.coe_sub, ← EReal.coe_mul]
  refine (max_neg_coe _).trans ?_
  unfold dist
  rw [abs_mul, abs_of_pos (show (0 : ℝ) < 1 / 2 by norm_num)]
  congr 1
  ring_nf

/-- The cubic B-spline of a distance. -/
def spline (a : EReal) : EReal :=
  Scalar.select (Ideal.cmp .olt a (Ideal.ofBits .f32 0x3F800000#32))
    (Ideal.ofBits .f32 0x3F2AAAAB#32 - a * a + Ideal.ofBits .f32 0x3F000000#32 * (a * a * a))
    (Scalar.select (Ideal.cmp .olt a (Ideal.ofBits .f32 0x40000000#32))
      (Ideal.ofBits .f32 0x3E2AAAAB#32 * ((Ideal.ofBits .f32 0x40000000#32 - a) * (Ideal.ofBits .f32 0x40000000#32 - a) * (Ideal.ofBits .f32 0x40000000#32 - a)))
      (Ideal.ofBits .f32 0x00000000#32))

/-- The same with the factors of both cubes grouped another way. -/
theorem spline_regrouped (a : EReal) :
    Scalar.select (Ideal.cmp .olt a (Ideal.ofBits .f32 0x3F800000#32))
      (Ideal.ofBits .f32 0x3F2AAAAB#32 - a * a + Ideal.ofBits .f32 0x3F000000#32 * a * a * a)
      (Scalar.select (Ideal.cmp .olt a (Ideal.ofBits .f32 0x40000000#32))
        (Ideal.ofBits .f32 0x3E2AAAAB#32 * ((Ideal.ofBits .f32 0x40000000#32 - a) * ((Ideal.ofBits .f32 0x40000000#32 - a) * (Ideal.ofBits .f32 0x40000000#32 - a))))
        (Ideal.ofBits .f32 0x00000000#32)) = spline a := by
  unfold spline
  rw [mul_assoc (Ideal.ofBits .f32 0x3F000000#32) a a, mul_assoc (Ideal.ofBits .f32 0x3F000000#32) (a * a) a,
    mul_assoc (Ideal.ofBits .f32 0x40000000#32 - a) (Ideal.ofBits .f32 0x40000000#32 - a)]

/-! ## The weighted scores of a token -/

/-- A token's score against every expert, weighted by the spline of their distance. -/
def row (x : FVec Ideal ⟨3, ![4, 4096, 2048]⟩ .f32) (s : FVec Ideal ⟨2, ![64, 2048]⟩ .f32) (b : Fin 4) (t : Fin 4096) (e : Fin 64) : EReal :=
  (∑ k : Fin 2048, x (ix3 b t k) * Ideal.sign (s (ix2 e k))) * spline (dist t.val e.val)

end Cert.Spec

end
-- ==== Proof.RefValue.lean ====
/- The reference's two results at an index, over the extended reals: the softmax of a token's weighted scores, and the
   position of the greatest of them. -/
module

public import proofs.«01_k».proof.Proof.RefRun
public import proofs.«01_k».proof.Proof.Spec
public import Idealize.ShloMosaic.Lib.IdealHost
public import Idealize.ShloMosaic.Lib.Pipeline.Value

@[expose] public section

noncomputable section

namespace Cert.RefValue

open Cert.ReferenceIdeal Cert.ReferenceIdeal.Gen Cert.Spec Idealize.ShloMosaic Idealize.ShloMosaic.ValueIdx Idealize.ShloMosaic.StableHlo

/-! ## The weighted scores -/

/-- A score is the sum over the features of the token's times the expert's sign. -/
theorem scores_apply (x : FVec Ideal S4x4096x2048 .f32) (s : FVec Ideal S64x2048 .f32) (b : Fin 4) (t : Fin 4096) (e : Fin 64) :
    RefRun.scores x s (ix3 b t e) = ∑ k : Fin 2048, x (ix3 b t k) * Ideal.sign (s (ix2 e k)) := by
  refine (Ideal.dotGeneral_apply dot_S4x4096x2048_S64x2048_S4x4096x64_2_1_01_0_n_n none _ x (Host.sign s) (ix3 b t e)).trans ?_
  rw [← Equiv.sum_comp (contrEquiv1 dot_S4x4096x2048_S64x2048_S4x4096x64_2_1_01_0_n_n 2048 rfl rfl).symm]
  refine Finset.sum_congr rfl fun k _ => ?_
  have hl : dot_S4x4096x2048_S64x2048_S4x4096x64_2_1_01_0_n_n.lhsIdx (ix3 b t e)
      ((contrEquiv1 dot_S4x4096x2048_S64x2048_S4x4096x64_2_1_01_0_n_n 2048 rfl rfl).symm k) = ix3 b t k := by
    funext a; apply Fin.ext
    match a with
    | ⟨0, _⟩ => rfl
    | ⟨1, _⟩ => rfl
    | ⟨2, _⟩ => rfl
  have hr : dot_S4x4096x2048_S64x2048_S4x4096x64_2_1_01_0_n_n.rhsIdx (ix3 b t e)
      ((contrEquiv1 dot_S4x4096x2048_S64x2048_S4x4096x64_2_1_01_0_n_n 2048 rfl rfl).symm k) = ix2 e k := by
    funext a; apply Fin.ext
    match a with
    | ⟨0, _⟩ => rfl
    | ⟨1, _⟩ => rfl
  rw [hl, hr]
  rfl

/-- A token-by-expert array read from one of tokens alone: the same for every expert. -/
theorem spread_apply (v : FVec Ideal S4x4096 .f32) (b : Fin 4) (t : Fin 4096) (e : Fin 64) :
    broadcastInDim S4x4096x64 ![0, 1, 2] bcast_S4x4096x1_S4x4096x64_0_1_2 (broadcastInDim S4x4096x1 ![0, 1] bcast_S4x4096_S4x4096x1_0_1 v) (ix3 b t e)
      = v (ix2 b t) := by
  refine (broadcastInDim_apply _ _ _ _ (ix3 b t (0 : Fin 1)) fun a => ?_).trans (broadcastInDim_apply _ _ _ _ (ix2 b t) fun a => ?_)
  · match a with
    | ⟨0, _⟩ => rfl
    | ⟨1, _⟩ => rfl
    | ⟨2, _⟩ => rfl
  · match a with
    | ⟨0, _⟩ => rfl
    | ⟨1, _⟩ => rfl

/-- An array of one literal reads it everywhere. -/
theorem fill_apply (w : BitVec 32) (j : S4x4096x64.Idx) : RefRun.fill (F := Ideal) w j = Ideal.ofBits .f32 w :=
  broadcastInDim_apply (t := S4x4096x64) ![] bcast_S_S4x4096x64 (constant (F := Ideal) S_ .f32 w) j (fun a => a.elim0) (fun a => a.elim0)

/-- One literal at every token reads it everywhere. -/
theorem fillTokens_apply (w : BitVec 32) (j : S4x4096.Idx) :
    broadcastInDim S4x4096 ![] bcast_S_S4x4096 (constant (F := Ideal) S_ .f32 w) j = Ideal.ofBits .f32 w :=
  broadcastInDim_apply (t := S4x4096) ![] bcast_S_S4x4096 (constant (F := Ideal) S_ .f32 w) j (fun a => a.elim0) (fun a => a.elim0)

/-- The word of a small natural number converted to a real is the number. -/
theorem sitofp_nat (n : ℕ) (h : n < 4096) : FloatOps.sitofp (F := Ideal) .f32 (BitVec.ofNat 32 n) = ((n : ℝ) : EReal) := by
  show (((BitVec.ofNat 32 n).toInt : ℝ) : EReal) = _
  rw [toInt_ofNat n h]; rfl

/-- The distance at an index. -/
theorem dist_apply (b : Fin 4) (t : Fin 4096) (e : Fin 64) : RefRun.dist (F := Ideal) (ix3 b t e) = Spec.dist t.val e.val := by
  rw [← dist_by_quotients]
  have h1 : broadcastInDim S4x4096 ![0, 1] bcast_S1x4096_S4x4096_0_1 (broadcastInDim S1x4096 ![1] bcast_S4096_S1x4096_1
      (sitofp (F := Ideal) .f32 (iotaInDim S4096 32 0))) (ix2 b t) = ((t.val : ℝ) : EReal) := by
    refine (broadcastInDim_apply _ _ _ _ (ix2 (0 : Fin 1) t) fun a => ?_).trans ((broadcastInDim_apply _ _ _ _ (ix1 t) fun a => ?_).trans (sitofp_nat t.val t.isLt))
    · match a with
      | ⟨0, _⟩ => rfl
      | ⟨1, _⟩ => rfl
    · match a with
      | ⟨0, _⟩ => rfl
  have h2 : broadcastInDim S4x4096x64 ![0, 1, 2] bcast_S1x1x64_S4x4096x64_0_1_2 (broadcastInDim S1x1x64 ![2] bcast_S64_S1x1x64_2
      (sitofp (F := Ideal) .f32 (iotaInDim S64 32 0))) (ix3 b t e) = ((e.val : ℝ) : EReal) := by
    refine (broadcastInDim_apply _ _ _ _ (ix3 (0 : Fin 1) (0 : Fin 1) e) fun a => ?_).trans
      ((broadcastInDim_apply _ _ _ _ (ix1 e) fun a => ?_).trans (sitofp_nat e.val (e.isLt.trans (by norm_num))))
    · match a with
      | ⟨0, _⟩ => rfl
      | ⟨1, _⟩ => rfl
      | ⟨2, _⟩ => rfl
    · match a with
      | ⟨0, _⟩ => rfl
  have h3 : broadcastInDim S4x4096x64 ![0, 1, 2] bcast_S4x4096x1_S4x4096x64_0_1_2 (broadcastInDim S4x4096x1 ![0, 1] bcast_S4x4096_S4x4096x1_0_1
      (mulf (Host.divf
          (broadcastInDim S4x4096 ![0, 1] bcast_S1x4096_S4x4096_0_1 (broadcastInDim S1x4096 ![1] bcast_S4096_S1x4096_1 (sitofp (F := Ideal) .f32 (iotaInDim S4096 32 0))))
          (broadcastInDim S4x4096 ![] bcast_S_S4x4096 (constant S_ .f32 0x45800000#32)))
        (broadcastInDim S4x4096 ![] bcast_S_S4x4096 (constant S_ .f32 0x42800000#32)))) (ix3 b t e)
      = Ideal.div ((t.val : ℝ) : EReal) (Ideal.ofBits .f32 0x45800000#32) * Ideal.ofBits .f32 0x42800000#32 := by
    rw [spread_apply, ← h1, ← fillTokens_apply 0x45800000#32 (ix2 b t), ← fillTokens_apply 0x42800000#32 (ix2 b t)]
    rfl
  rw [← h3, ← h2, ← fill_apply 0x40000000#32 (ix3 b t e)]
  rfl

/-- A weighted score at an index. -/
theorem weighted_apply (x : FVec Ideal S4x4096x2048 .f32) (s : FVec Ideal S64x2048 .f32) (b : Fin 4) (t : Fin 4096) (e : Fin 64) :
    RefRun.weighted x s (ix3 b t e) = row x s b t e := by
  unfold row
  rw [← scores_apply, ← dist_apply b t e]
  unfold spline
  rw [← fill_apply 0x3F800000#32 (ix3 b t e), ← fill_apply 0x3F2AAAAB#32 (ix3 b t e), ← fill_apply 0x3F000000#32 (ix3 b t e),
    ← fill_apply 0x40000000#32 (ix3 b t e), ← fill_apply 0x3E2AAAAB#32 (ix3 b t e), ← fill_apply 0x00000000#32 (ix3 b t e)]
  rfl

/-! ## The softmax -/

/-- Reducing the last axis of a token-by-expert array. -/
theorem reduces_last : S4x4096x64.Reduces [2] S4x4096 := by decide

/-- The index a token and an expert make. -/
theorem lift_last (b : Fin 4) (t : Fin 4096) (e : Fin 64) : reduces_last.lift (ix2 b t) e = ix3 b t e := by
  funext a; apply Fin.ext
  match a with
  | ⟨0, _⟩ => rfl
  | ⟨1, _⟩ => rfl
  | ⟨2, _⟩ => rfl

/-- The word every fold over a row starts from is the least extended real. -/
theorem init_bot : constant (F := Ideal) S_ .f32 0xFF800000#32 (Shape.Idx.first h_S_) = (⊥ : EReal) := lit_bot

/-- The word every position starts from is zero. -/
theorem init_zero : constantI S_ 32 0#32 (Shape.Idx.first h_S_) = 0#32 := rfl

/-- A row's greatest entry. -/
theorem greatest_apply (z : FVec Ideal S4x4096x64 .f32) (b : Fin 4) (t : Fin 4096) :
    Host.reduce FloatOps.maximumf z (constant S_ .f32 0xFF800000#32) reducesTo_S4x4096x64_S4x4096_d2 h_S_ (ix2 b t) = top fun k => z (ix3 b t k) := by
  refine (Host.reduce_eq_fold_single FloatOps.maximumf z _ reducesTo_S4x4096x64_S4x4096_d2 reduces_last h_S_ (ix2 b t)).trans ?_
  rw [init_bot]
  exact Finset.fold_congr fun k _ => congrArg z (lift_last b t k)

/-- A row's entry raised less the row's greatest. -/
theorem raised_apply (z : FVec Ideal S4x4096x64 .f32) (b : Fin 4) (t : Fin 4096) (e : Fin 64) :
    RefRun.raised z (ix3 b t e) = Ideal.exp (z (ix3 b t e) - top fun k => z (ix3 b t k)) := by
  have h : maximumf (broadcastInDim S4x4096 ![] bcast_S_S4x4096 (constant (F := Ideal) S_ .f32 0xFF800000#32))
      (Host.reduce FloatOps.maximumf z (constant S_ .f32 0xFF800000#32) reducesTo_S4x4096x64_S4x4096_d2 h_S_) (ix2 b t)
        = top fun k => z (ix3 b t k) := by
    have hmax : ∀ (v w : FVec Ideal S4x4096 .f32) (i : S4x4096.Idx), maximumf v w i = max (v i) (w i) := fun _ _ _ => rfl
    rw [hmax, fillTokens_apply, lit_bot, greatest_apply]
    exact max_eq_right bot_le
  rw [← h]
  unfold RefRun.raised
  exact congrArg (fun w => Ideal.exp (z (ix3 b t e) - w)) (spread_apply _ b t e)

/-- The softmax at an index. -/
theorem soft_apply (z : FVec Ideal S4x4096x64 .f32) (b : Fin 4) (t : Fin 4096) (e : Fin 64) :
    RefRun.soft z (ix3 b t e) = softRow (fun k => z (ix3 b t k)) e := by
  have h : Host.reduceAdd (RefRun.raised z) (constant S_ .f32 0x00000000#32) reducesTo_S4x4096x64_S4x4096_d2 h_S_ (ix2 b t)
      = ∑ k : Fin 64, Ideal.exp (z (ix3 b t k) - top fun k => z (ix3 b t k)) := by
    refine (Ideal.hostReduceAdd_single reducesTo_S4x4096x64_S4x4096_d2 reduces_last _ _ _).trans ?_
    show Ideal.ofBits .f32 0x00000000#32 + _ = _
    rw [Ideal.ofBits_zero_f32, zero_add]
    refine Finset.sum_congr rfl fun k _ => ?_
    exact (congrArg (RefRun.raised z) (lift_last b t k)).trans (raised_apply z b t k)
  unfold softRow
  rw [← h, ← raised_apply]
  unfold RefRun.soft
  exact congrArg (Ideal.div _) (spread_apply _ b t e)

/-! ## The position of the greatest -/

/-- The reducer keeps a pair that is greater, or equal and earlier. -/
theorem reducer_cases (p q : Ideal .f32 × BitVec 32) :
    reducer_argmax_f32_i32 p q = p ∧ (q.1 < p.1 ∨ (p.1 = q.1 ∧ p.2.toInt ≤ q.2.toInt))
    ∨ reducer_argmax_f32_i32 p q = q ∧ (p.1 < q.1 ∨ (p.1 = q.1 ∧ q.2.toInt ≤ p.2.toInt)) := by
  obtain ⟨a, m⟩ := p
  obtain ⟨c, n⟩ := q
  have h4 : ∀ u v : BitVec 1, IntOp.ori u v = 1#1 ↔ u = 1#1 ∨ v = 1#1 := by decide
  have h5 : ∀ u v : BitVec 1, IntOp.andi u v = 1#1 ↔ u = 1#1 ∧ v = 1#1 := by decide
  have h6 : ∀ P : Prop, ∀ _ : Decidable P, BitVec.ofBool (decide P) = 1#1 ↔ P := by
    intro P hP; by_cases h : P <;> simp [h]
  unfold reducer_argmax_f32_i32
  have hlt : FloatOps.cmpf (F := Ideal) (φ := .f32) .ogt a c = 1#1 ↔ c < a := h6 (c < a) _
  have hne : ¬ FloatOps.cmpf (F := Ideal) (φ := .f32) .une a a = 1#1 := fun h => (h6 (a ≠ a) _).mp h rfl
  have heq : FloatOps.cmpf (F := Ideal) (φ := .f32) .oeq a c = 1#1 ↔ a = c := h6 (a = c) _
  have hsl : IntOp.cmpi .slt m n = 1#1 ↔ m.toInt < n.toInt := by
    show BitVec.ofBool (m.slt n) = 1#1 ↔ _
    rw [BitVec.slt_eq_decide]; exact h6 _ _
  have hsel : ∀ {α : Type} (u : BitVec 1) (v w : α), Scalar.select u v w = if u = 1#1 then v else w := fun _ _ _ => rfl
  simp only [hsel, h4, h5, hlt, hne, heq, hsl, or_false]
  rcases lt_trichotomy a c with h | h | h
  · exact Or.inr ⟨by simp [h.ne, not_lt.mpr h.le], Or.inl h⟩
  · subst h
    by_cases hmn : m.toInt < n.toInt
    · exact Or.inl ⟨by simp [hmn], Or.inr ⟨rfl, hmn.le⟩⟩
    · exact Or.inr ⟨by simp [hmn], Or.inr ⟨rfl, not_lt.mp hmn⟩⟩
  · exact Or.inl ⟨by simp [h], Or.inl h⟩

/-- Folding the reducer over a list ends at one of its pairs, greatest, and earliest among the equal. -/
theorem reducer_foldl (L : List (Ideal .f32 × BitVec 32)) : ∀ i : Ideal .f32 × BitVec 32,
    L.foldl reducer_argmax_f32_i32 i ∈ i :: L ∧ ∀ p ∈ i :: L, p.1 ≤ (L.foldl reducer_argmax_f32_i32 i).1
      ∧ (p.1 = (L.foldl reducer_argmax_f32_i32 i).1 → (L.foldl reducer_argmax_f32_i32 i).2.toInt ≤ p.2.toInt) := by
  induction L with
  | nil =>
    intro i
    refine ⟨List.mem_cons_self, fun p hp => ?_⟩
    obtain rfl : p = i := by simpa using hp
    exact ⟨le_refl _, fun _ => le_refl _⟩
  | cons q L ih =>
    intro i
    obtain ⟨hm, hle⟩ := ih (reducer_argmax_f32_i32 i q)
    rw [List.foldl_cons]
    set r := L.foldl reducer_argmax_f32_i32 (reducer_argmax_f32_i32 i q) with hr
    obtain ⟨h0, h0'⟩ := hle _ List.mem_cons_self
    refine ⟨?_, fun p hp => ?_⟩
    · rcases List.mem_cons.mp hm with h | h
      · rcases reducer_cases i q with ⟨hw, -⟩ | ⟨hw, -⟩ <;> rw [h, hw] <;> simp
      · exact List.mem_cons_of_mem _ (List.mem_cons_of_mem _ h)
    · rcases List.mem_cons.mp hp with h | h
      · subst h
        rcases reducer_cases p q with ⟨hw, -⟩ | ⟨hw, hc⟩ <;> rw [hw] at h0 h0'
        · exact ⟨h0, h0'⟩
        · rcases hc with hc | ⟨hc, hc'⟩
          · exact ⟨hc.le.trans h0, fun he => absurd (he ▸ h0) (not_le.mpr hc)⟩
          · exact ⟨hc ▸ h0, fun he => (h0' (hc ▸ he)).trans hc'⟩
      · rcases List.mem_cons.mp h with h | h
        · subst h
          rcases reducer_cases i p with ⟨hw, hc⟩ | ⟨hw, -⟩ <;> rw [hw] at h0 h0'
          · rcases hc with hc | ⟨hc, hc'⟩
            · exact ⟨hc.le.trans h0, fun he => absurd (he ▸ h0) (not_le.mpr hc)⟩
            · exact ⟨hc ▸ h0, fun he => (h0' (hc.trans he)).trans hc'⟩
          · exact ⟨h0, h0'⟩
        · exact hle p (List.mem_cons_of_mem _ h)

/-- The position of a row's greatest entry is found by folding the reducer over the row's pairs of entry and position. -/
theorem best_eq_foldl (z : FVec Ideal S4x4096x64 .f32) (j : S4x4096.Idx) :
    RefRun.best z j = ((Host.argReduceFiber z (iotaInDim S4x4096x64 32 2) reducesTo_S4x4096x64_S4x4096_d2 j).foldl reducer_argmax_f32_i32 ((⊥ : EReal), 0#32)).2 := by
  have h1 := congrFun (Ideal.argReduce_eq_reduce2 reducer_argmax_f32_i32 z (iotaInDim S4x4096x64 32 2) (constant S_ .f32 0xFF800000#32) (constantI S_ 32 0#32) reducesTo_S4x4096x64_S4x4096_d2 h_S_) j
  have h2 := Host.reduce2_eq_foldl_fiber reducer_argmax_f32_i32 z (iotaInDim S4x4096x64 32 2) (constant S_ .f32 0xFF800000#32) (constantI S_ 32 0#32) reducesTo_S4x4096x64_S4x4096_d2 h_S_ j
  rw [init_bot, init_zero] at h2
  exact congrArg Prod.snd (h1.trans h2)

/-- The position of the greatest entry of a row, as the fold finds it. -/
theorem best_apply (z : FVec Ideal S4x4096x64 .f32) (b : Fin 4) (t : Fin 4096) :
    RefRun.best z (ix2 b t) = BitVec.ofNat 32 (best fun k => z (ix3 b t k)).val := by
  set y : Fin 64 → EReal := fun k => z (ix3 b t k) with hy
  rw [best_eq_foldl]
  generalize hL : Host.argReduceFiber z (iotaInDim S4x4096x64 32 2) reducesTo_S4x4096x64_S4x4096_d2 (ix2 b t) = L
  have mem : ∀ p : Ideal .f32 × BitVec 32, p ∈ L ↔ ∃ e : Fin 64, p = (y e, BitVec.ofNat 32 e.val) := by
    intro p
    rw [← hL]
    unfold Host.argReduceFiber
    rw [Shape.ReducesTo.drop_eq_drop reducesTo_S4x4096x64_S4x4096_d2 reduces_last]
    simp only [List.mem_map, List.mem_filter, List.mem_finRange, true_and, decide_eq_true_eq]
    constructor
    · rintro ⟨n, hn, rfl⟩
      generalize S4x4096x64.rowMajor.symm n = i at hn
      have h := reduces_last.lift_drop i
      rw [hn] at h
      have h' : i = ix3 b t (i 2) := h.symm.trans (lift_last b t (i 2))
      exact ⟨i 2, Prod.ext (congrArg z h') rfl⟩
    · rintro ⟨e, rfl⟩
      refine ⟨S4x4096x64.rowMajor (ix3 b t e), ?_, ?_⟩
      · rw [Equiv.symm_apply_apply]
        exact (congrArg reduces_last.drop (lift_last b t e)).symm.trans (reduces_last.drop_lift (ix2 b t) e)
      · rw [Equiv.symm_apply_apply]; rfl
  obtain ⟨hm, hle⟩ := reducer_foldl L ((⊥ : EReal), 0#32)
  set r := L.foldl reducer_argmax_f32_i32 ((⊥ : EReal), 0#32) with hr
  have hbest := hle (y (best y), BitVec.ofNat 32 (best y).val) (List.mem_cons_of_mem _ ((mem _).mpr ⟨_, rfl⟩))
  have hlt : ∀ e : Fin 64, (BitVec.ofNat 32 e.val).toInt = (e.val : ℤ) := fun e => toInt_ofNat _ (e.isLt.trans (by norm_num))
  rcases List.mem_cons.mp hm with h | h
  · have hb : (best y).val = 0 := by
      have h0 : y 0 = top y := by
        rw [h] at hbest
        have : top y = ⊥ := by rw [← best_attains y]; exact le_bot_iff.mp hbest.1
        rw [this]; exact le_bot_iff.mp (this ▸ le_top y 0)
      have := best_le y 0 h0
      exact Nat.le_zero.mp this
    rw [h, hb]
  · obtain ⟨e, he⟩ := (mem r).mp h
    have hty : y e = top y := by
      apply le_antisymm (le_top y e)
      rw [← best_attains y]
      have := hbest.1
      rw [he] at this
      exact this
    have h1 : e ≤ best y := by
      have := hbest.2 (by rw [he, best_attains y]; exact hty.symm)
      rw [he] at this
      have h2 : (BitVec.ofNat 32 e.val).toInt ≤ (BitVec.ofNat 32 (best y).val).toInt := this
      rw [hlt, hlt] at h2
      exact_mod_cast h2
    rw [he, le_antisymm h1 (best_le y e hty)]

/-! ## The two results -/

/-- The softmax of the weighted scores, at an index. -/
theorem res0_apply (x : FVec Ideal S4x4096x2048 .f32) (s : FVec Ideal S64x2048 .f32) (b : Fin 4) (t : Fin 4096) (e : Fin 64) :
    RefRun.res0 x s (ix3 b t e) = softRow (row x s b t) e := by
  unfold RefRun.res0
  rw [soft_apply]
  exact congrArg (fun z => softRow z e) (funext fun k => weighted_apply x s b t k)

/-- The position of the greatest weighted score, at an index. -/
theorem res1_apply (x : FVec Ideal S4x4096x2048 .f32) (s : FVec Ideal S64x2048 .f32) (b : Fin 4) (t : Fin 4096) :
    RefRun.res1 x s (ix2 b t) = BitVec.ofNat 32 (best (row x s b t)).val := by
  unfold RefRun.res1
  rw [best_apply]
  exact congrArg (fun z => BitVec.ofNat 32 (best z).val) (funext fun k => weighted_apply x s b t k)

end Cert.RefValue

end
-- ==== Proof.KerValue.lean ====
/- The values one step of the kernel computes, at an index, over the extended reals. A step holds 256 tokens of each of
   4 batches: token `j` of batch `b` is column `256 b + j` of its 64-row arrays, one row per expert. -/
module

public import proofs.«01_k».proof.Proof.Gen.KernelIdeal.Frame
public import proofs.«01_k».proof.Proof.Spec
public import Idealize.ShloMosaic.Lib.Pipeline.Value

@[expose] public section

noncomputable section

namespace Cert.KerValue

open Cert.KernelIdeal Cert.KernelIdeal.Gen Cert.Spec Idealize.ShloMosaic Idealize.ShloMosaic.ValueIdx

/-- The column of token `j` of batch `b`. -/
def col (b : Fin 4) (j : Fin 256) : Fin 1024 := ⟨256 * b.val + j.val, by have := b.isLt; have := j.isLt; omega⟩

/-! ## The weighted scores -/

/-- The kernel's scores at an index: the sum over the features of the token's times the expert's sign. -/
theorem scores_apply (x : Vec Ideal S4x256x2048 .f32) (s : Vec Ideal S64x2048 .f32) (b : Fin 4) (j : Fin 256) (e : Fin 64) :
    k0_pay5 x s (ix2 e (col b j)) = ∑ k : Fin 2048, x (ix3 b j k) * Ideal.sign (s (ix2 e k)) := by
  unfold k0_pay5
  refine (transpose_apply [1, 0] _ transposes_S1024x64_p1_0_S64x1024 (ix2 e (col b j)) (ix2 (col b j) e) fun a => ?_).trans ?_
  · match a with
    | ⟨0, _⟩ => rfl
    | ⟨1, _⟩ => rfl
  refine (Ideal.matmul_constant_zero_apply dot_S1024x2048_S64x2048_S1024x64_1_1_0_0_n_n none _ _ (ix2 (col b j) e)).trans ?_
  rw [← Equiv.sum_comp (contrEquiv1 dot_S1024x2048_S64x2048_S1024x64_1_1_0_0_n_n 2048 rfl rfl).symm]
  refine Finset.sum_congr rfl fun k _ => ?_
  have hl : dot_S1024x2048_S64x2048_S1024x64_1_1_0_0_n_n.lhsIdx (ix2 (col b j) e)
      ((contrEquiv1 dot_S1024x2048_S64x2048_S1024x64_1_1_0_0_n_n 2048 rfl rfl).symm k) = ix2 (col b j) k := by
    funext a; apply Fin.ext
    match a with
    | ⟨0, _⟩ => rfl
    | ⟨1, _⟩ => rfl
  have hr : dot_S1024x2048_S64x2048_S1024x64_1_1_0_0_n_n.rhsIdx (ix2 (col b j) e)
      ((contrEquiv1 dot_S1024x2048_S64x2048_S1024x64_1_1_0_0_n_n 2048 rfl rfl).symm k) = ix2 e k := by
    funext a; apply Fin.ext
    match a with
    | ⟨0, _⟩ => rfl
    | ⟨1, _⟩ => rfl
  rw [hl, hr]
  refine congrArg₂ (· * ·) ?_ ?_
  · refine shapeCast_apply x shapeCasts_S4x256x2048_S1024x2048 _ _ ?_
    rw [Shape.rowMajor_val_three, Shape.rowMajor_val_two]
    show (b.val * 256 + j.val) * 2048 + k.val = (256 * b.val + j.val) * 2048 + k.val
    rw [Nat.mul_comm b.val]
  · exact Ideal.jnp_sign_eq_sign_f32 (s (ix2 e k))

/-- The word of a token's position: the step's first token plus the column's place in its batch. -/
theorem position (n : ℕ) (hn : n < 16) (b : Fin 4) (j : Fin 256) :
    IntOp.addi (Scalar.muli (BitVec.ofNat 32 n) 256#32) (IntOp.andi (BitVec.ofNat 32 (col b j).val) 255#32) = BitVec.ofNat 32 (256 * n + j.val) := by
  have hj := j.isLt
  have hb := b.isLt
  apply BitVec.eq_of_toNat_eq
  show ((BitVec.ofNat 32 n * 256#32) + (BitVec.ofNat 32 (256 * b.val + j.val) &&& 255#32)).toNat = _
  rw [BitVec.toNat_add, BitVec.toNat_mul, BitVec.toNat_and, BitVec.toNat_ofNat, BitVec.toNat_ofNat, BitVec.toNat_ofNat, BitVec.toNat_ofNat, BitVec.toNat_ofNat,
    Nat.mod_eq_of_lt (show 255 < 2 ^ 32 by norm_num), show (255 : ℕ) = 2 ^ 8 - 1 from rfl, Nat.and_two_pow_sub_one_eq_mod]
  omega

/-- The word of a small natural number converted to a real is the number. -/
theorem sitofp_nat (n : ℕ) (h : n < 4096) : FloatOps.sitofp (F := Ideal) .f32 (BitVec.ofNat 32 n) = ((n : ℝ) : EReal) := by
  show (((BitVec.ofNat 32 n).toInt : ℝ) : EReal) = _
  rw [toInt_ofNat n h]; rfl

/-- The row numbers at an index, as reals. -/
theorem rows_apply (e : Fin 64) (r : Fin 1024) :
    (sitofp .f32 (iota .tc S64x1024 32 [0] iota_S64x1024_d0_w32) : FVec Ideal S64x1024 .f32) (ix2 e r) = ((e.val : ℝ) : EReal) := by
  show FloatOps.sitofp (F := Ideal) .f32 (iota .tc S64x1024 32 [0] iota_S64x1024_d0_w32 (ix2 e r)) = _
  rw [iota_single_apply]
  exact sitofp_nat e.val (e.isLt.trans (by norm_num))

/-- The kernel's distance at an index. -/
theorem dist_apply (i : grid0.Coords) (b : Fin 4) (j : Fin 256) (e : Fin 64) :
    k0_pay6 (F := Ideal) i (ix2 e (col b j)) = Spec.dist (256 * (i 0).val + j.val) e.val := by
  have hi : (i 0).val < 16 := (i 0).isLt
  have hj := j.isLt
  rw [← dist_by_products, ← sitofp_nat (256 * (i 0).val + j.val) (by omega), ← position _ hi b j, ← rows_apply e (col b j)]
  have h := iota_single_apply .tc S64x1024 32 1 iota_S64x1024_d1_w32 (ix2 e (col b j))
  rw [show BitVec.ofNat 32 (col b j).val = iota .tc S64x1024 32 [1] iota_S64x1024_d1_w32 (ix2 e (col b j)) from h.symm]
  rfl

/-- The scores of a step's token against every expert, weighted. -/
def part (x : Vec Ideal S4x256x2048 .f32) (s : Vec Ideal S64x2048 .f32) (n : ℕ) (b : Fin 4) (j : Fin 256) (e : Fin 64) : EReal :=
  (∑ k : Fin 2048, x (ix3 b j k) * Ideal.sign (s (ix2 e k))) * spline (Spec.dist (256 * n + j.val) e.val)

/-- The weighted scores a step computes, one column per token. -/
def weighted (i : grid0.Coords) (x : Vec Ideal S4x256x2048 .f32) (s : Vec Ideal S64x2048 .f32) : FVec Ideal S64x1024 .f32 :=
  k0_pay11 (k0_pay5 x s) (k0_pay7 (F := Ideal) i) (k0_pay8 i) (k0_pay9 (F := Ideal) i) (k0_pay10 i)

/-- A weighted score at an index. -/
theorem weighted_apply (i : grid0.Coords) (x : Vec Ideal S4x256x2048 .f32) (s : Vec Ideal S64x2048 .f32) (b : Fin 4) (j : Fin 256) (e : Fin 64) :
    weighted i x s (ix2 e (col b j)) = part x s (i 0).val b j e := by
  unfold part
  rw [← scores_apply, ← dist_apply i b j e, ← spline_regrouped]
  rfl

/-! ## The softmax and the position of the greatest, column by column -/

/-- The index an expert and a column make. -/
theorem lift_first (r : Fin 1024) (e : Fin 64) : reduces_S64x1024_S1024.lift (ix1 r) e = ix2 e r := by
  funext a; apply Fin.ext
  match a with
  | ⟨0, _⟩ => rfl
  | ⟨1, _⟩ => rfl

/-- A row of 1024 entries as a one-row array. -/
theorem oneRow_apply (v : FVec Ideal S1024 .f32) (r : Fin 1024) : shapeCast S1x1024 v shapeCasts_S1024_S1x1024 (ix2 (0 : Fin 1) r) = v (ix1 r) := by
  refine shapeCast_apply v shapeCasts_S1024_S1x1024 _ _ ?_
  rw [Shape.rowMajor_val_one, Shape.rowMajor_val_two]
  show r.val = 0 * 1024 + r.val
  omega

/-- The one row spread over every expert's. -/
theorem spread_apply (v : FVec Ideal S1x1024 .f32) (e : Fin 64) (r : Fin 1024) :
    broadcastTo S64x1024 v broadcasts_S1x1024_S64x1024 (ix2 e r) = v (ix2 (0 : Fin 1) r) := by
  refine broadcastTo_apply v broadcasts_S1x1024_S64x1024 _ _ fun a => ?_
  match a with
  | ⟨0, _⟩ => rfl
  | ⟨1, _⟩ => rfl

/-- The least of each column, at an index. -/
theorem min_apply (v : FVec Ideal S64x1024 .f32) (hφ : FKind.Formats .f32) (hacc : 0x7F800000#32 = FKind.minimumf.neutral .f32 hφ) (r : Fin 1024) :
    multiReduction .minimumf [0] S1024 v 0x7F800000#32 reduces_S64x1024_S1024 hφ hacc (ix1 r)
      = (Finset.univ : Finset (Fin 64)).fold min ⊤ fun e => v (ix2 e r) := by
  rw [multiReduction_minimumf_eq_fold]
  refine (reduces_S64x1024_S1024.fold_filter_drop_single (FloatOps.minimumf (F := Ideal) (φ := .f32)) _ v (ix1 r)).trans ?_
  show (Finset.univ : Finset (Fin 64)).fold min (Ideal.ofBits .f32 0x7F800000#32) (fun e => v (reduces_S64x1024_S1024.lift (ix1 r) e)) = _
  rw [lit_top]
  exact Finset.fold_congr fun e _ => congrArg v (lift_first r e)

section Columns

variable (v14 : FVec Ideal S64x1024 .f32) (v31 : IVec S64x1024 1) (v39 : FVec Ideal S64x1024 .f32) (v41 : IVec S64x1024 1) (v43 : FVec Ideal S64x1024 .f32)

/-- A column of the weighted scores. -/
def column (r : Fin 1024) (e : Fin 64) : EReal := k0_pay11 v14 v31 v39 v41 v43 (ix2 e r)

/-- The greatest of a column. -/
theorem top_apply (r : Fin 1024) : k0_pay12 v14 v31 v39 v41 v43 (ix2 (0 : Fin 1) r) = top (column v14 v31 v39 v41 v43 r) := by
  unfold k0_pay12
  refine (oneRow_apply _ r).trans ((Ideal.multiReduction_maximumf_single (k0_pay11 v14 v31 v39 v41 v43) 0xFF800000#32 reduces_S64x1024_S1024 (.inl rfl) rfl (ix1 r)).trans ?_)
  show (Finset.univ : Finset (Fin 64)).fold max (Ideal.ofBits .f32 0xFF800000#32) (fun e => k0_pay11 v14 v31 v39 v41 v43 (reduces_S64x1024_S1024.lift (ix1 r) e)) = _
  rw [lit_bot]
  exact Finset.fold_congr fun e _ => congrArg (k0_pay11 v14 v31 v39 v41 v43) (lift_first r e)

/-- A column's entries raised less its greatest. -/
theorem raised_apply (r : Fin 1024) (e : Fin 64) :
    exp (subf (k0_pay11 v14 v31 v39 v41 v43) (broadcastTo S64x1024 (k0_pay12 v14 v31 v39 v41 v43) broadcasts_S1x1024_S64x1024)) (ix2 e r)
      = Ideal.exp (column v14 v31 v39 v41 v43 r e - top (column v14 v31 v39 v41 v43 r)) := by
  rw [← top_apply]
  exact congrArg (fun w => Ideal.exp (k0_pay11 v14 v31 v39 v41 v43 (ix2 e r) - w)) (spread_apply _ e r)

/-- The softmax of a column. -/
theorem soft_apply (r : Fin 1024) (e : Fin 64) : k0_pay13 v14 v31 v39 v41 v43 (ix2 e r) = softRow (column v14 v31 v39 v41 v43 r) e := by
  unfold k0_pay13 softRow
  rw [← raised_apply]
  refine congrArg (Ideal.div _) ((spread_apply _ e r).trans ((oneRow_apply _ r).trans ((Ideal.multiReduction_add_single _ 0x00000000#32 reduces_S64x1024_S1024 (.inl rfl) rfl (ix1 r)).trans ?_)))
  refine Finset.sum_congr rfl fun k _ => ?_
  exact (congrArg _ (lift_first r k)).trans (raised_apply v14 v31 v39 v41 v43 r k)

/-- The position of a column's greatest, as a real. -/
theorem best_apply (r : Fin 1024) :
    k0_pay14 v14 v31 v39 v41 v43 (ix2 (0 : Fin 1) r) = ((((best (column v14 v31 v39 v41 v43 r)).val : ℕ) : ℝ) : EReal) := by
  rw [← inf_positions]
  unfold k0_pay14
  refine (oneRow_apply _ r).trans ?_
  refine (min_apply _ _ _ r).trans (Finset.fold_congr fun e _ => ?_)
  show Scalar.select (Ideal.cmp .oeq (k0_pay11 v14 v31 v39 v41 v43 (ix2 e r)) (broadcastTo S64x1024 (k0_pay12 v14 v31 v39 v41 v43) broadcasts_S1x1024_S64x1024 (ix2 e r)))
    ((sitofp .f32 (iota .tc S64x1024 32 [0] iota_S64x1024_d0_w32) : FVec Ideal S64x1024 .f32) (ix2 e r)) (Ideal.ofBits .f32 0x42800000#32) = _
  rw [spread_apply, top_apply, rows_apply, lit_64]
  show (if BitVec.ofBool (decide (column v14 v31 v39 v41 v43 r e = top (column v14 v31 v39 v41 v43 r))) = 1#1 then _ else _) = _
  by_cases h : column v14 v31 v39 v41 v43 r e = top (column v14 v31 v39 v41 v43 r) <;> simp [h]

end Columns

/-! ## The stores -/

/-- A batch's columns of the softmax, as the block a store writes. -/
theorem block_apply (o : ℕ) (p : FVec Ideal S64x1024 .f32) (h : S64x1024.Slices ![0, o] S64x256) (b : Fin 4) (ho : o = 256 * b.val) (u : Fin 1) (e : Fin 64) (j : Fin 256) :
    shapeCast S1x64x256 (extractStridedSlice S64x256 ![0, o] p h) shapeCasts_S64x256_S1x64x256 (ix3 u e j) = p (ix2 e (col b j)) := by
  refine (shapeCast_apply _ shapeCasts_S64x256_S1x64x256 _ (ix2 e j) ?_).trans (extractStridedSlice_apply _ p h _ _ fun a => ?_)
  · rw [Shape.rowMajor_val_two, Shape.rowMajor_val_three]
    show e.val * 256 + j.val = (u.val * 64 + e.val) * 256 + j.val
    have := u.isLt
    omega
  · match a with
    | ⟨0, _⟩ => exact (Nat.zero_add _).symm
    | ⟨1, _⟩ => exact congrArg (· + j.val) ho.symm

/-- A batch's columns of the positions, as the row a store writes. -/
theorem strip_apply (o : ℕ) (q : FVec Ideal S1x1024 .f32) (h : S1x1024.Slices ![0, o] S1x256) (b : Fin 4) (ho : o = 256 * b.val) (u : Fin 1) (j : Fin 256) :
    (fptosi 32 (extractStridedSlice S1x256 ![0, o] q h) : IVec S1x256 32) (ix2 u j) = Ideal.fptosi 32 (q (ix2 (0 : Fin 1) (col b j))) := by
  refine congrArg (Ideal.fptosi 32) (extractStridedSlice_apply _ q h _ _ fun a => ?_)
  match a with
  | ⟨0, _⟩ => show 0 = 0 + u.val; have := u.isLt; omega
  | ⟨1, _⟩ => exact congrArg (· + j.val) ho.symm

section Stores

variable (i : grid0.Coords) (x : Vec Ideal S4x256x2048 .f32) (s : Vec Ideal S64x2048 .f32)

/-- The loads of a step take its blocks whole. -/
theorem ld_x : View.ld x r0_0 = x := View.ld_unit_zero (by funext a; match a with | ⟨0, _⟩ => rfl | ⟨1, _⟩ => rfl | ⟨2, _⟩ => rfl) _ x
/-- As `ld_x`, the other block. -/
theorem ld_s : View.ld s r0_1 = s := View.ld_unit_zero (by funext a; match a with | ⟨0, _⟩ => rfl | ⟨1, _⟩ => rfl) _ s

/-- A column of the step's weighted scores is a token's. -/
theorem column_eq (b : Fin 4) (j : Fin 256) :
    column (k0_pay20 i x s) (k0_pay21 i x s) (k0_pay22 i x s) (k0_pay23 i x s) (k0_pay24 i x s) (col b j) = part x s (i 0).val b j := by
  funext e
  rw [← weighted_apply]
  unfold column weighted k0_pay20 k0_pay21 k0_pay22 k0_pay23 k0_pay24
  rw [ld_x, ld_s]

/-- The softmax block a step leaves, at an index. -/
theorem out3_apply (b : Fin 4) (e : Fin 64) (j : Fin 256) : out0_3 i x s (ix3 b e j) = softRow (part x s (i 0).val b j) e := by
  unfold out0_3
  refine View.canon_apply_of_pieces (Val := Elt Ideal) (fun y : S4x64x256.Idx => softRow (part x s (i 0).val (y 0) (y 2)) (y 1)) _ ?_ (ix3 b e j) (cover0_3 _ _ _ _ _)
  have key : ∀ (b : Fin 4) (o : ℕ) (h : S64x1024.Slices ![0, o] S64x256) (ho : o = 256 * b.val) (off : Fin 3 → ℕ) (inb : ∀ a, off a + S1x64x256.size a ≤ S4x64x256.size a)
      (hoff : off = ![b.val, 0, 0]) (y : S1x64x256.Idx),
      shapeCast S1x64x256 (extractStridedSlice S64x256 ![0, o] (k0_pay13 (k0_pay20 i x s) (k0_pay21 i x s) (k0_pay22 i x s) (k0_pay23 i x s) (k0_pay24 i x s)) h) shapeCasts_S64x256_S1x64x256 y
        = (fun y : S4x64x256.Idx => softRow (part x s (i 0).val (y 0) (y 2)) (y 1)) ((Rect.unit (s := S4x64x256) off S1x64x256.size inb).emb y) := by
    intro b o h ho off inb hoff y
    subst hoff
    obtain ⟨u, e', j', rfl⟩ : ∃ (u : Fin 1) (e' : Fin 64) (j' : Fin 256), y = ix3 u e' j' := ⟨y 0, y 1, y 2, eq_ix3 y⟩
    rw [block_apply o _ h b ho, soft_apply, column_eq]
    have h0 : (Rect.unit (s := S4x64x256) ![b.val, 0, 0] S1x64x256.size inb).emb (ix3 u e' j') = ix3 b e' j' := by
      funext a; apply Fin.ext
      match a with
      | ⟨0, _⟩ => show b.val + 1 * u.val = b.val; have := u.isLt; omega
      | ⟨1, _⟩ => show 0 + 1 * e'.val = e'.val; omega
      | ⟨2, _⟩ => show 0 + 1 * j'.val = j'.val; omega
    rw [h0]
  intro p hp y
  simp only [List.mem_cons, List.not_mem_nil, or_false] at hp
  rcases hp with rfl | rfl | rfl | rfl
  · exact key 3 768 slices_S64x1024_o0_768_S64x256 rfl _ inb_S4x64x256_S1x64x256_3_0_0 rfl y
  · exact key 2 512 slices_S64x1024_o0_512_S64x256 rfl _ inb_S4x64x256_S1x64x256_2_0_0 rfl y
  · exact key 1 256 slices_S64x1024_o0_256_S64x256 rfl _ inb_S4x64x256_S1x64x256_1_0_0 rfl y
  · exact key 0 0 slices_S64x1024_o0_0_S64x256 rfl _ inb_S4x64x256_S1x64x256_0_0_0 rfl y

/-- The block of positions a step leaves, at an index. -/
theorem out2_apply (b : Fin 4) (j : Fin 256) : out0_2 i x s (ix2 b j) = BitVec.ofNat 32 (best (part x s (i 0).val b j)).val := by
  unfold out0_2 k0_pay25
  refine View.canon_apply_of_pieces (Val := Elt Ideal) (fun y : S4x256.Idx => BitVec.ofNat 32 (best (part x s (i 0).val (y 0) (y 1))).val) _ ?_ (ix2 b j) (cover0_2 _ _ _ _ _)
  have key : ∀ (b : Fin 4) (o : ℕ) (h : S1x1024.Slices ![0, o] S1x256) (ho : o = 256 * b.val) (off : Fin 2 → ℕ) (inb : ∀ a, off a + S1x256.size a ≤ S4x256.size a)
      (hoff : off = ![b.val, 0]) (y : S1x256.Idx),
      (fptosi 32 (extractStridedSlice S1x256 ![0, o] (k0_pay14 (k0_pay20 i x s) (k0_pay21 i x s) (k0_pay22 i x s) (k0_pay23 i x s) (k0_pay24 i x s)) h) : IVec S1x256 32) y
        = (fun y : S4x256.Idx => BitVec.ofNat 32 (best (part x s (i 0).val (y 0) (y 1))).val) ((Rect.unit (s := S4x256) off S1x256.size inb).emb y) := by
    intro b o h ho off inb hoff y
    subst hoff
    obtain ⟨u, j', rfl⟩ : ∃ (u : Fin 1) (j' : Fin 256), y = ix2 u j' := ⟨y 0, y 1, eq_ix2 y⟩
    rw [strip_apply o _ h b ho, best_apply, column_eq, fptosi_nat _ (Fin.isLt _)]
    have h0 : (Rect.unit (s := S4x256) ![b.val, 0] S1x256.size inb).emb (ix2 u j') = ix2 b j' := by
      funext a; apply Fin.ext
      match a with
      | ⟨0, _⟩ => show b.val + 1 * u.val = b.val; have := u.isLt; omega
      | ⟨1, _⟩ => show 0 + 1 * j'.val = j'.val; omega
    rw [h0]
  intro p hp y
  simp only [List.mem_cons, List.not_mem_nil, or_false] at hp
  rcases hp with rfl | rfl | rfl | rfl
  · exact key 3 768 slices_S1x1024_o0_768_S1x256 rfl _ inb_S4x256_S1x256_3_0 rfl y
  · exact key 2 512 slices_S1x1024_o0_512_S1x256 rfl _ inb_S4x256_S1x256_2_0 rfl y
  · exact key 1 256 slices_S1x1024_o0_256_S1x256 rfl _ inb_S4x256_S1x256_1_0 rfl y
  · exact key 0 0 slices_S1x1024_o0_0_S1x256 rfl _ inb_S4x256_S1x256_0_0 rfl y

end Stores

end Cert.KerValue

end
-- ==== Proof.KerRun.lean ====
/- The kernel program's run over the extended reals: every block its steps write back is the block of one array, the
   blocks cover the two arrays, and the host's transpose after the launch reads the second. -/
module

public import proofs.«01_k».proof.Proof.KerValue
public import Idealize.ShloMosaic.Lib.Pipeline.ValueKit

@[expose] public section

noncomputable section

namespace Cert.KerRun

open Cert.KernelIdeal Cert.KernelIdeal.Gen Cert.Spec Idealize.ShloMosaic.TcCoe Idealize.ShloMosaic.ValueIdx Idealize.SL.Sem
open Idealize.ShloMosaic hiding ix2 ix3 eq_ix2 eq_ix3
open Idealize.ShloMosaic.Pipeline (Dat)

/-- The positions of the greatest weighted scores, one per token. -/
def positions (x : FVec Ideal S4x4096x2048 .f32) (s : FVec Ideal S64x2048 .f32) : IVec S4x4096 32 :=
  fun i => BitVec.ofNat 32 (best (row x s (i 0) (i 1))).val

/-- The softmax of every token's weighted scores, experts before tokens. -/
def softByExpert (x : FVec Ideal S4x4096x2048 .f32) (s : FVec Ideal S64x2048 .f32) : FVec Ideal S4x64x4096 .f32 :=
  fun i => softRow (row x s (i 0) (i 2)) (i 1)

/-- The same, tokens before experts. -/
def softByToken (x : FVec Ideal S4x4096x2048 .f32) (s : FVec Ideal S64x2048 .f32) : FVec Ideal S4x4096x64 .f32 :=
  fun i => softRow (row x s (i 0) (i 1)) (i 2)

/-- Exchanging the last two axes of the one gives the other. -/
theorem transpose_soft (x : FVec Ideal S4x4096x2048 .f32) (s : FVec Ideal S64x2048 .f32) :
    transpose S4x4096x64 [0, 2, 1] (softByExpert x s) transposes_S4x64x4096_S4x4096x64_0_2_1 = softByToken x s := by
  funext i
  obtain ⟨b, t, e, rfl⟩ : ∃ (b : Fin 4) (t : Fin 4096) (e : Fin 64), i = ix3 b t e := ⟨i 0, i 1, i 2, eq_ix3 i⟩
  refine transpose_apply [0, 2, 1] _ _ _ (ix3 b e t) fun a => ?_
  match a with
  | ⟨0, _⟩ => rfl
  | ⟨1, _⟩ => rfl
  | ⟨2, _⟩ => rfl

variable (m : (ℓ : Loc nD τ sig) → Buf (Elt Ideal) ℓ) (ρ : Dev nD → PrngReg)

/-- At a step the first window holds all four batches' rows of that step's tokens. -/
theorem index0 : ∀ t : Fin cfg0.N, win0_0.index t = ![0, (grid0.coords t 0).val, 0] := (by decide +kernel : ∀ t : Fin grid0.N, _)
/-- The second holds all the experts, at every step. -/
theorem index1 : ∀ t : Fin cfg0.N, win0_1.index t = ![0, 0] := (by decide +kernel : ∀ t : Fin grid0.N, _)
/-- The third holds the positions of the step's tokens. -/
theorem index2 : ∀ t : Fin cfg0.N, win0_2.index t = ![0, (grid0.coords t 0).val] := (by decide +kernel : ∀ t : Fin grid0.N, _)
/-- The fourth holds the softmaxes of the step's tokens. -/
theorem index3 : ∀ t : Fin cfg0.N, win0_3.index t = ![0, 0, (grid0.coords t 0).val] := (by decide +kernel : ∀ t : Fin grid0.N, _)

/-- The tokens of a step. -/
def token (t : Fin cfg0.N) (j : Fin 256) : Fin 4096 :=
  ⟨256 * (grid0.coords t 0).val + j.val, by have h : (grid0.coords t 0).val < 16 := (grid0.coords t 0).isLt; have := j.isLt; omega⟩

/-- A step's block of tokens, at an index. -/
theorem iblk0_apply (c : Dev nD) (t : Fin cfg0.N) (b : Fin 4) (j : Fin 256) (k : Fin 2048) :
    (iblk m c 0 t : Vec Ideal S4x256x2048 .f32) (ix3 b j k) = V m c main_arg0 (ix3 b (token t j) k) := by
  blk_simp [iblk]
  refine congrArg (V m c main_arg0) ?_
  funext a; apply Fin.ext
  match a with
  | ⟨0, _⟩ => blk_simp [index0]
  | ⟨1, _⟩ => blk_simp [index0]; show _ = 256 * _ + j.val; rw [Nat.mul_comm]
  | ⟨2, _⟩ => blk_simp [index0]

/-- A step's block of experts, at an index. -/
theorem iblk1_apply (c : Dev nD) (t : Fin cfg0.N) (e : Fin 64) (k : Fin 2048) :
    (iblk m c 1 t : Vec Ideal S64x2048 .f32) (ix2 e k) = V m c main_arg1 (ix2 e k) := by
  blk_simp [iblk]
  refine congrArg (V m c main_arg1) ?_
  funext a; apply Fin.ext
  match a with
  | ⟨0, _⟩ => blk_simp [index1]
  | ⟨1, _⟩ => blk_simp [index1]

/-- A step's weighted scores are those of its tokens. -/
theorem part_eq (c : Dev nD) (t : Fin cfg0.N) (b : Fin 4) (j : Fin 256) :
    KerValue.part (iblk m c 0 t) (iblk m c 1 t) (grid0.coords t 0).val b j = row (V m c main_arg0) (V m c main_arg1) b (token t j) := by
  funext e
  unfold KerValue.part row
  refine congrArg (· * _) (Finset.sum_congr rfl fun k _ => ?_)
  rw [iblk0_apply, iblk1_apply]

/-- The array of positions after the launch. -/
theorem final2 (c : Dev nD) : (dats m 0 c).arrAt 2 cfg0.N = positions (V m c main_arg0) (V m c main_arg1) := by
  refine (dats m 0 c).arrAt_eq_of_covers 2 _ (by decide +kernel) fun t _ y => ?_
  obtain ⟨b, j, rfl⟩ : ∃ (b : Fin 4) (j : Fin 256), y = ix2 b j := ⟨y 0, y 1, eq_ix2 y⟩
  blk_simp
  rw [after0_2]
  refine (KerValue.out2_apply (grid0.coords t) (iblk m c 0 t) (iblk m c 1 t) b j).trans ?_
  rw [part_eq]
  show positions _ _ (ix2 b (token t j)) = _
  refine congrArg (positions _ _) ?_
  funext a; apply Fin.ext
  match a with
  | ⟨0, _⟩ => blk_simp [index2]
  | ⟨1, _⟩ => blk_simp [index2]; show 256 * _ + j.val = _; rw [Nat.mul_comm]

/-- The array of softmaxes after the launch. -/
theorem final3 (c : Dev nD) : (dats m 0 c).arrAt 3 cfg0.N = softByExpert (V m c main_arg0) (V m c main_arg1) := by
  refine (dats m 0 c).arrAt_eq_of_covers 3 _ (by decide +kernel) fun t _ y => ?_
  obtain ⟨b, e, j, rfl⟩ : ∃ (b : Fin 4) (e : Fin 64) (j : Fin 256), y = ix3 b e j := ⟨y 0, y 1, y 2, eq_ix3 y⟩
  blk_simp
  rw [after0_3]
  refine (KerValue.out3_apply (grid0.coords t) (iblk m c 0 t) (iblk m c 1 t) b e j).trans ?_
  rw [part_eq]
  show softByExpert _ _ (ix3 b e (token t j)) = _
  refine congrArg (softByExpert _ _) ?_
  funext a; apply Fin.ext
  match a with
  | ⟨0, _⟩ => blk_simp [index3]
  | ⟨1, _⟩ => blk_simp [index3]
  | ⟨2, _⟩ => blk_simp [index3]; show 256 * _ + j.val = _; rw [Nat.mul_comm]

/-- The windows' arrays are distinct buffers. -/
theorem arr_inj : Function.Injective (Pipeline.arrRef spec0) := by decide

/-- What the host's line after the launch leaves: the softmaxes, tokens before experts. -/
theorem after_tail (c : Dev nD) :
    Pipeline.afterTail₀ cfgs (dats m) 0 (V0 m) [hostOps1] c main_v1 = softByToken (V m c main_arg0) (V m c main_arg1) := by
  rw [← transpose_soft, ← final3]
  unfold Pipeline.afterTail₀
  simp only [List.flatten_cons, List.flatten_nil, List.append_nil, hostOps1]
  after_results_simp
  refine congrArg (fun v => transpose S4x4096x64 [0, 2, 1] v transposes_S4x64x4096_S4x4096x64_0_2_1) ?_
  exact Pipeline.withArrays_arr spec0 arr_inj c _ _ 3

/-- The kernel program terminates from any memory with zero counters: the positions and the softmaxes of the weighted
    scores of its arguments are in its two results, the arguments are as they were. -/
theorem run : θ_run defs (onTc (τ := τ) (main (F := Ideal))) ⟨m, fun _ => 0, ρ⟩ fun r => ∀ c : Dev nD,
      r.2.mem ((c.tc : Thread nD τ).loc main_v0_0) = positions (m ((c.tc : Thread nD τ).loc main_arg0)) (m ((c.tc : Thread nD τ).loc main_arg1))
      ∧ r.2.mem ((c.tc : Thread nD τ).loc main_v1) = softByToken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have e0 := V_main_arg0 m c
    have e1 := V_main_arg1 m c
    refine ⟨?_, ?_, ?_, ?_⟩
    · exact (((h c).1 2).trans (final2 m c)).trans (by rw [e0, e1])
    · exact (((h c).2 main_v1 (by decide)).trans (after_tail m c)).trans (by rw [e0, e1])
    · exact ((h c).1 0).trans (((dats m 0 c).arrAt_in 0 rfl _).trans ((A_eq m c 0).trans e0))
    · exact ((h c).1 1).trans (((dats m 0 c).arrAt_in 1 rfl _).trans ((A_eq m c 1).trans e1))) (run_main m ρ)

end Cert.KerRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefValue
public import proofs.«01_k».proof.Proof.KerRun
public import Idealize.ShloMosaic.Adequacy
public import Idealize.ShloMosaic.Init

@[expose] public section

noncomputable section

namespace Cert.Proof

open Idealize.ShloMosaic Idealize.SL.Sem

/-- The positions the reference computes are the kernel's. -/
theorem positions_eq (x : FVec Ideal Cert.KernelIdeal.S4x4096x2048 .f32) (s : FVec Ideal Cert.KernelIdeal.S64x2048 .f32) :
    Cert.RefRun.res1 x s = Cert.KerRun.positions x s := by
  funext i
  obtain ⟨b, t, rfl⟩ : ∃ (b : Fin 4) (t : Fin 4096), i = ValueIdx.ix2 b t := ⟨i 0, i 1, ValueIdx.eq_ix2 i⟩
  exact Cert.RefValue.res1_apply x s b t

/-- The softmaxes the reference computes are the kernel's. -/
theorem soft_eq (x : FVec Ideal Cert.KernelIdeal.S4x4096x2048 .f32) (s : FVec Ideal Cert.KernelIdeal.S64x2048 .f32) :
    Cert.RefRun.res0 x s = Cert.KerRun.softByToken x s := by
  funext i
  obtain ⟨b, t, e, rfl⟩ : ∃ (b : Fin 4) (t : Fin 4096) (e : Fin 64), i = ValueIdx.ix3 b t e := ⟨i 0, i 1, i 2, ValueIdx.eq_ix3 i⟩
  exact Cert.RefValue.res0_apply x s b t e

/-- From equal arguments the two idealized programs end with equal results, both of them. -/
theorem equal : Cert.algebraic_KernelIdeal_ReferenceIdeal (hKernelIdeal := Cert.KernelIdeal.Gen.facts) (hReferenceIdeal := Cert.ReferenceIdeal.Gen.facts) := by
  intro m g m' g' _ hargs
  refine ⟨fun c => Cert.KerRun.positions (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KerRun.softByToken (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KerRun.run m g, (θ_run _ _ _).mono (fun r h c => ?_) (Cert.RefRun.run m' g')⟩
  obtain ⟨h1, h0, k0, k1⟩ := h c
  obtain ⟨a0, a1⟩ := hargs c
  refine ⟨h1.trans ?_, h0.trans ?_, k0, k1⟩
  · rw [a0, a1]; exact positions_eq _ _
  · rw [a0, a1]; exact soft_eq _ _

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.RefRun.frame m g,
  IdealRules.sign_bit.statement Cert.KernelIdeal.S64x2048 .f32, equal⟩

end Cert.Proof

end
